-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_edges_ok [hPre_edges_ok : Cert.Pre_edges_ok.Facts] (m : (ℓ : Loc Cert.KernelIdeal.nD Cert.KernelIdeal.τ Cert.KernelIdeal.sig) → Buf (Elt Ideal) ℓ) : Prop :=
  ∀ c : Dev Cert.KernelIdeal.nD,
    (Cert.Pre_edges_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).1 = (fun _ => 1#1)
    ∧ (Cert.Pre_edges_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.1 = (fun _ => 1#1)
    ∧ (Cert.Pre_edges_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.1 = (fun _ => 1#1)
    ∧ (Cert.Pre_edges_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.1 = (fun _ => 1#1)
    ∧ (Cert.Pre_edges_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.1 = (fun _ => 1#1)
    ∧ (Cert.Pre_edges_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.1 = (fun _ => 1#1)
    ∧ (Cert.Pre_edges_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_edges_ok [hPre_edges_ok : Cert.Pre_edges_ok.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_edges_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).1 = (fun _ => 1#1)
    ∧ (Cert.Pre_edges_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.1 = (fun _ => 1#1)
    ∧ (Cert.Pre_edges_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.1 = (fun _ => 1#1)
    ∧ (Cert.Pre_edges_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.1 = (fun _ => 1#1)
    ∧ (Cert.Pre_edges_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.1 = (fun _ => 1#1)
    ∧ (Cert.Pre_edges_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.1 = (fun _ => 1#1)
    ∧ (Cert.Pre_edges_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_edges_ok [hKernelIdeal : Cert.KernelIdeal.Facts] [hPre_edges_ok : Cert.Pre_edges_ok.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_edges_ok m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_edges_ok [hReferenceIdeal : Cert.ReferenceIdeal.Facts] [hPre_edges_ok : Cert.Pre_edges_ok.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_edges_ok m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  IdealRules.named_const.Statement Cert.KernelIdeal.κ "far" .f32 0x7149F2CA#32 ⊤
  ∧ IdealRules.named_const.Statement Cert.KernelIdeal.κ "inv_sigma" .f32 0x3F4CCCCD#32 ((4 / 5 : ℝ) : EReal)

def algebraic_KernelIdeal_ReferenceIdeal_pre_edges_ok [hKernelIdeal : Cert.KernelIdeal.Facts] [hReferenceIdeal : Cert.ReferenceIdeal.Facts] [hPre_edges_ok : Cert.Pre_edges_ok.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_edges_ok m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v37)) (v1 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_v38) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v178) = v0 c
          ∧ r.2.mem ((c.tc : Thread Cert.ReferenceIdeal.nD Cert.ReferenceIdeal.τ).loc Cert.ReferenceIdeal.main_indices) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_edges_ok : Cert.Pre_edges_ok.Facts),
    quiescent_Kernel (hKernel := hKernel)
    ∧ quiescent_KernelIdeal (hKernelIdeal := hKernelIdeal)
    ∧ quiescent_KernelIdeal_pre_edges_ok (hKernelIdeal := hKernelIdeal) (hPre_edges_ok := hPre_edges_ok)
    ∧ quiescent_ReferenceIdeal (hReferenceIdeal := hReferenceIdeal)
    ∧ quiescent_ReferenceIdeal_pre_edges_ok (hReferenceIdeal := hReferenceIdeal) (hPre_edges_ok := hPre_edges_ok)
    ∧ preserves_Kernel_KernelIdeal
    ∧ algebraic_KernelIdeal_ReferenceIdeal_pre_edges_ok (hKernelIdeal := hKernelIdeal) (hReferenceIdeal := hReferenceIdeal) (hPre_edges_ok := hPre_edges_ok)
-- ==== Pre_edges_ok.lean ====
abbrev S2x1024x14x3 : Shape := ⟨4, ![2, 1024, 14, 3]⟩
abbrev S2x1024x14 : Shape := ⟨3, ![2, 1024, 14]⟩
abbrev S2x1024 : Shape := ⟨2, ![2, 1024]⟩
abbrev S66x16 : Shape := ⟨2, ![66, 16]⟩
abbrev S16 : Shape := ⟨1, ![16]⟩
abbrev S416x128 : Shape := ⟨2, ![416, 128]⟩
abbrev S128 : Shape := ⟨1, ![128]⟩
abbrev S2x1024x4x3 : Shape := ⟨4, ![2, 1024, 4, 3]⟩
abbrev S_ : Shape := ⟨0, ![]⟩
abbrev S2x1024x1 : Shape := ⟨3, ![2, 1024, 1]⟩
abbrev S2x1 : Shape := ⟨2, ![2, 1]⟩

class Facts : Prop where
  slices_S2x1024x14x3_S2x1024x4x3_0_0_0_0 : S2x1024x14x3.Slices ![0, 0, 0, 0] S2x1024x4x3
  bcast_S_S2x1024x4x3 : S_.BroadcastsInDim S2x1024x4x3 (![] : Fin 0 → Fin S2x1024x4x3.rank)
  slices_S2x1024x14_S2x1024x1_0_0_1 : S2x1024x14.Slices ![0, 0, 1] S2x1024x1
  shapeCasts_S2x1024x1_S2x1024 : S2x1024x1.ShapeCasts S2x1024
  bcast_S_S2x1024 : S_.BroadcastsInDim S2x1024 (![] : Fin 0 → Fin S2x1024.rank)
  slices_S2x1024_S2x1_0_0 : S2x1024.Slices ![0, 0] S2x1
  bcast_S2x1_S2x1024_0_1 : S2x1.BroadcastsInDim S2x1024 (![0, 1] : Fin 2 → Fin S2x1024.rank)
  bcast_S_S66x16 : S_.BroadcastsInDim S66x16 (![] : Fin 0 → Fin S66x16.rank)
  bcast_S_S16 : S_.BroadcastsInDim S16 (![] : Fin 0 → Fin S16.rank)
  bcast_S_S416x128 : S_.BroadcastsInDim S416x128 (![] : Fin 0 → Fin S416x128.rank)

variable [Facts]

def fn_part1 {F : FTy → Type} [FloatOps F] (main_arg7 : FVec F S416x128 .f32) (main_v4 : IVec S2x1024x4x3 1) (main_v8 : IVec S2x1024 1) (main_v12 : IVec S2x1024 1) (main_v15 : IVec S2x1024 1) (main_v18 : IVec S66x16 1) (main_v19 : FVec F S16 .f32) (main_cst_2 : FVec F S_ .f32) : IVec S2x1024x4x3 1 × IVec S2x1024 1 × IVec S2x1024 1 × IVec S2x1024 1 × IVec S66x16 1 × IVec S16 1 × IVec S416x128 1 :=
  let main_v20 : FVec F S16 .f32 := broadcastInDim S16 ![] bcast_S_S16 main_cst_2
  let main_v21 : IVec S16 1 := cmpf .olt main_v19 main_v20
  let main_v22 : FVec F S416x128 .f32 := Host.absf main_arg7
  let main_cst_3 : FVec F S_ .f32 := constant S_ .f32 0x7F800000#32
  let main_v23 : FVec F S416x128 .f32 := broadcastInDim S416x128 ![] bcast_S_S416x128 main_cst_3
  let main_v24 : IVec S416x128 1 := cmpf .olt main_v22 main_v23
  (main_v4, main_v8, main_v12, main_v15, main_v18, main_v21, main_v24)

def fn {F : FTy → Type} [FloatOps F] (main_arg0 : FVec F S2x1024x14x3 .f32) (main_arg1 : FVec F S2x1024x14 .f32) (main_arg2 : IVec S2x1024 32) (main_arg3 : IVec S2x1024 32) (main_arg4 : IVec S2x1024 32) (main_arg5 : FVec F S66x16 .f32) (main_arg6 : FVec F S16 .f32) (main_arg7 : FVec F S416x128 .f32) (main_arg8 : FVec F S128 .f32) (main_arg9 : FVec F S128 .f32) : IVec S2x1024x4x3 1 × IVec S2x1024 1 × IVec S2x1024 1 × IVec S2x1024 1 × IVec S66x16 1 × IVec S16 1 × IVec S416x128 1 :=
  let main_v0 : IVec S2x1024 32 := iotaInDim S2x1024 32 1
  let main_v1 : FVec F S2x1024x4x3 .f32 := (extractStridedSlice S2x1024x4x3 ![0, 0, 0, 0] · slices_S2x1024x14x3_S2x1024x4x3_0_0_0_0) main_arg0
  let main_v2 : FVec F S2x1024x4x3 .f32 := Host.absf main_v1
  let main_cst : FVec F S_ .f32 := constant S_ .f32 0x7F800000#32
  let main_v3 : FVec F S2x1024x4x3 .f32 := broadcastInDim S2x1024x4x3 ![] bcast_S_S2x1024x4x3 main_cst
  let main_v4 : IVec S2x1024x4x3 1 := cmpf .olt main_v2 main_v3
  let main_v5 : FVec F S2x1024x1 .f32 := (extractStridedSlice S2x1024x1 ![0, 0, 1] · slices_S2x1024x14_S2x1024x1_0_0_1) main_arg1
  let main_v6 : FVec F S2x1024 .f32 := shapeCast S2x1024 main_v5 shapeCasts_S2x1024x1_S2x1024
  let main_cst_0 : FVec F S_ .f32 := constant S_ .f32 0x3F800000#32
  let main_v7 : FVec F S2x1024 .f32 := broadcastInDim S2x1024 ![] bcast_S_S2x1024 main_cst_0
  let main_v8 : IVec S2x1024 1 := cmpf .oeq main_v6 main_v7
  let main_v9 : IVec S2x1 32 := (extractStridedSlice S2x1 ![0, 0] · slices_S2x1024_S2x1_0_0) main_arg3
  let main_v10 : IVec S2x1024 32 := broadcastInDim S2x1024 ![0, 1] bcast_S2x1_S2x1024_0_1 main_v9
  let main_v11 : IVec S2x1024 32 := subi main_arg3 main_v10
  let main_v12 : IVec S2x1024 1 := cmpi .eq main_v11 main_v0
  let main_v13 : IVec S2x1 32 := (extractStridedSlice S2x1 ![0, 0] · slices_S2x1024_S2x1_0_0) main_arg4
  let main_v14 : IVec S2x1024 32 := broadcastInDim S2x1024 ![0, 1] bcast_S2x1_S2x1024_0_1 main_v13
  let main_v15 : IVec S2x1024 1 := cmpi .eq main_arg4 main_v14
  let main_v16 : FVec F S66x16 .f32 := Host.absf main_arg5
  let main_cst_1 : FVec F S_ .f32 := constant S_ .f32 0x7F800000#32
  let main_v17 : FVec F S66x16 .f32 := broadcastInDim S66x16 ![] bcast_S_S66x16 main_cst_1
  let main_v18 : IVec S66x16 1 := cmpf .olt main_v16 main_v17
  let main_v19 : FVec F S16 .f32 := Host.absf main_arg6
  let main_cst_2 : FVec F S_ .f32 := constant S_ .f32 0x7F800000#32
  fn_part1 (F := F) main_arg7 main_v4 main_v8 main_v12 main_v15 main_v18 main_v19 main_cst_2
-- ==== Kernel.lean ====
abbrev S2x1024x14x3 : Shape := ⟨4, ![2, 1024, 14, 3]⟩
abbrev S2x1024x14 : Shape := ⟨3, ![2, 1024, 14]⟩
abbrev S2x1024 : Shape := ⟨2, ![2, 1024]⟩
abbrev S66x16 : Shape := ⟨2, ![66, 16]⟩
abbrev S16 : Shape := ⟨1, ![16]⟩
abbrev S416x128 : Shape := ⟨2, ![416, 128]⟩
abbrev S128 : Shape := ⟨1, ![128]⟩
abbrev S128x128 : Shape := ⟨2, ![128, 128]⟩
abbrev S512x128 : Shape := ⟨2, ![512, 128]⟩
abbrev S16x128 : Shape := ⟨2, ![16, 128]⟩
abbrev S2x1024x42 : Shape := ⟨3, ![2, 1024, 42]⟩
abbrev S2x42x1024 : Shape := ⟨3, ![2, 42, 1024]⟩
abbrev S_ : Shape := ⟨0, ![]⟩
abbrev S128x16 : Shape := ⟨2, ![128, 16]⟩
abbrev S1 : Shape := ⟨1, ![1]⟩
abbrev S8x128 : Shape := ⟨2, ![8, 128]⟩
abbrev S2 : Shape := ⟨1, ![2]⟩
abbrev S15 : Shape := ⟨1, ![15]⟩
abbrev S1x16 : Shape := ⟨2, ![1, 16]⟩
abbrev S8x16 : Shape := ⟨2, ![8, 16]⟩
abbrev S1312x128 : Shape := ⟨2, ![1312, 128]⟩
abbrev S2x128x336 : Shape := ⟨3, ![2, 128, 336]⟩
abbrev S2x49152x128 : Shape := ⟨3, ![2, 49152, 128]⟩
abbrev S2x1024x128 : Shape := ⟨3, ![2, 1024, 128]⟩
abbrev S1x128x336 : Shape := ⟨3, ![1, 128, 336]⟩
abbrev S1x64x42 : Shape := ⟨3, ![1, 64, 42]⟩
abbrev S1x42x1024 : Shape := ⟨3, ![1, 42, 1024]⟩
abbrev S1x3072x128 : Shape := ⟨3, ![1, 3072, 128]⟩
abbrev S1x64x128 : Shape := ⟨3, ![1, 64, 128]⟩
abbrev S64x42 : Shape := ⟨2, ![64, 42]⟩
abbrev S42x1024 : Shape := ⟨2, ![42, 1024]⟩
abbrev S128x336 : Shape := ⟨2, ![128, 336]⟩
abbrev S128x42 : Shape := ⟨2, ![128, 42]⟩
abbrev S128x3 : Shape := ⟨2, ![128, 3]⟩
abbrev S128x1 : Shape := ⟨2, ![128, 1]⟩
abbrev S128x12 : Shape := ⟨2, ![128, 12]⟩
abbrev S64x3 : Shape := ⟨2, ![64, 3]⟩
abbrev S64x1 : Shape := ⟨2, ![64, 1]⟩
abbrev S64x12 : Shape := ⟨2, ![64, 12]⟩
abbrev S64x16 : Shape := ⟨2, ![64, 16]⟩
abbrev S3x1024 : Shape := ⟨2, ![3, 1024]⟩
abbrev S1x1024 : Shape := ⟨2, ![1, 1024]⟩
abbrev S64x1024 : Shape := ⟨2, ![64, 1024]⟩
abbrev S8x1024 : Shape := ⟨2, ![8, 1024]⟩
abbrev S8 : Shape := ⟨1, ![8]⟩
abbrev S8x1 : Shape := ⟨2, ![8, 1]⟩
abbrev S8x48 : Shape := ⟨2, ![8, 48]⟩
abbrev S64x48 : Shape := ⟨2, ![64, 48]⟩
abbrev S64x80 : Shape := ⟨2, ![64, 80]⟩
abbrev S64x128 : Shape := ⟨2, ![64, 128]⟩
abbrev S3072x1 : Shape := ⟨2, ![3072, 1]⟩
abbrev S3072x128 : Shape := ⟨2, ![3072, 128]⟩
abbrev S3072 : Shape := ⟨1, ![3072]⟩
abbrev S1x128 : Shape := ⟨2, ![1, 128]⟩
abbrev S2x1024x48x128 : Shape := ⟨4, ![2, 1024, 48, 128]⟩
abbrev S2x1024x48 : Shape := ⟨3, ![2, 1024, 48]⟩

abbrev nBuf : Space → Nat
  | .hbm => 89
  | .vmem => 14
  | .smem => 0
  | _ => 0

abbrev bufTy : (tb : Table) → Fin (tcTables nBuf tb) → BufTy
  | .hbm, ⟨0, _⟩ => ⟨S2x1024x14x3, .f32⟩
  | .hbm, ⟨1, _⟩ => ⟨S2x1024x14, .f32⟩
  | .hbm, ⟨2, _⟩ => ⟨S2x1024, .i32⟩
  | .hbm, ⟨3, _⟩ => ⟨S2x1024, .i32⟩
  | .hbm, ⟨4, _⟩ => ⟨S2x1024, .i32⟩
  | .hbm, ⟨5, _⟩ => ⟨S66x16, .f32⟩
  | .hbm, ⟨6, _⟩ => ⟨S16, .f32⟩
  | .hbm, ⟨7, _⟩ => ⟨S416x128, .f32⟩
  | .hbm, ⟨8, _⟩ => ⟨S128, .f32⟩
  | .hbm, ⟨9, _⟩ => ⟨S128, .f32⟩
  | .hbm, ⟨10, _⟩ => ⟨S128x128, .f32⟩
  | .hbm, ⟨11, _⟩ => ⟨S128x128, .f32⟩
  | .hbm, ⟨12, _⟩ => ⟨S512x128, .f32⟩
  | .hbm, ⟨13, _⟩ => ⟨S16x128, .f32⟩
  | .hbm, ⟨14, _⟩ => ⟨S2x1024x42, .f32⟩
  | .hbm, ⟨15, _⟩ => ⟨S2x42x1024, .f32⟩
  | .hbm, ⟨16, _⟩ => ⟨S_, .f32⟩
  | .hbm, ⟨17, _⟩ => ⟨S128x16, .f32⟩
  | .hbm, ⟨18, _⟩ => ⟨S_, .i32⟩
  | .hbm, ⟨19, _⟩ => ⟨S1, .i32⟩
  | .hbm, ⟨20, _⟩ => ⟨S128x16, .f32⟩
  | .hbm, ⟨21, _⟩ => ⟨S_, .f32⟩
  | .hbm, ⟨22, _⟩ => ⟨S8x128, .f32⟩
  | .hbm, ⟨23, _⟩ => ⟨S_, .i32⟩
  | .hbm, ⟨24, _⟩ => ⟨S1, .i32⟩
  | .hbm, ⟨25, _⟩ => ⟨S8x128, .f32⟩
  | .hbm, ⟨26, _⟩ => ⟨S_, .i32⟩
  | .hbm, ⟨27, _⟩ => ⟨S1, .i32⟩
  | .hbm, ⟨28, _⟩ => ⟨S8x128, .f32⟩
  | .hbm, ⟨29, _⟩ => ⟨S_, .i32⟩
  | .hbm, ⟨30, _⟩ => ⟨S1, .i32⟩
  | .hbm, ⟨31, _⟩ => ⟨S_, .i32⟩
  | .hbm, ⟨32, _⟩ => ⟨S1, .i32⟩
  | .hbm, ⟨33, _⟩ => ⟨S2, .i32⟩
  | .hbm, ⟨34, _⟩ => ⟨S8x128, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S15, .f32⟩
  | .hbm, ⟨43, _⟩ => ⟨S_, .f32⟩
  | .hbm, ⟨44, _⟩ => ⟨S15, .f32⟩
  | .hbm, ⟨45, _⟩ => ⟨S15, .f32⟩
  | .hbm, ⟨46, _⟩ => ⟨S1, .f32⟩
  | .hbm, ⟨47, _⟩ => ⟨S_, .f32⟩
  | .hbm, ⟨48, _⟩ => ⟨S15, .f32⟩
  | .hbm, ⟨49, _⟩ => ⟨S15, .f32⟩
  | .hbm, ⟨50, _⟩ => ⟨S15, .f32⟩
  | .hbm, ⟨51, _⟩ => ⟨S15, .f32⟩
  | .hbm, ⟨52, _⟩ => ⟨S1, .f32⟩
  | .hbm, ⟨53, _⟩ => ⟨S15, .f32⟩
  | .hbm, ⟨54, _⟩ => ⟨S15, .f32⟩
  | .hbm, ⟨55, _⟩ => ⟨S15, .f32⟩
  | .hbm, ⟨56, _⟩ => ⟨S1, .f32⟩
  | .hbm, ⟨57, _⟩ => ⟨S16, .f32⟩
  | .hbm, ⟨58, _⟩ => ⟨S1x16, .f32⟩
  | .hbm, ⟨59, _⟩ => ⟨S8x16, .f32⟩
  | .hbm, ⟨60, _⟩ => ⟨S128, .f32⟩
  | .hbm, ⟨61, _⟩ => ⟨S_, .i32⟩
  | .hbm, ⟨62, _⟩ => ⟨S1, .i32⟩
  | .hbm, ⟨63, _⟩ => ⟨S8x128, .f32⟩
  | .hbm, ⟨64, _⟩ => ⟨S_, .f32⟩
  | .hbm, ⟨65, _⟩ => ⟨S512x128, .f32⟩
  | .hbm, ⟨66, _⟩ => ⟨S128x128, .f32⟩
  | .hbm, ⟨67, _⟩ => ⟨S_, .i32⟩
  | .hbm, ⟨68, _⟩ => ⟨S1, .i32⟩
  | .hbm, ⟨69, _⟩ => ⟨S512x128, .f32⟩
  | .hbm, ⟨70, _⟩ => ⟨S128x128, .f32⟩
  | .hbm, ⟨71, _⟩ => ⟨S_, .i32⟩
  | .hbm, ⟨72, _⟩ => ⟨S1, .i32⟩
  | .hbm, ⟨73, _⟩ => ⟨S512x128, .f32⟩
  | .hbm, ⟨74, _⟩ => ⟨S128x128, .f32⟩
  | .hbm, ⟨75, _⟩ => ⟨S_, .i32⟩
  | .hbm, ⟨76, _⟩ => ⟨S1, .i32⟩
  | .hbm, ⟨77, _⟩ => ⟨S512x128, .f32⟩
  | .hbm, ⟨78, _⟩ => ⟨S16x128, .f32⟩
  | .hbm, ⟨79, _⟩ => ⟨S_, .i32⟩
  | .hbm, ⟨80, _⟩ => ⟨S1, .i32⟩
  | .hbm, ⟨81, _⟩ => ⟨S512x128, .f32⟩
  | .hbm, ⟨82, _⟩ => ⟨S16x128, .f32⟩
  | .hbm, ⟨83, _⟩ => ⟨S1312x128, .f32⟩
  | .hbm, ⟨84, _⟩ => ⟨S2x128x336, .f32⟩
  | .hbm, ⟨85, _⟩ => ⟨S2x49152x128, .f32⟩
  | .hbm, ⟨86, _⟩ => ⟨S2x1024x128, .i32⟩
  | .hbm, ⟨87, _⟩ => ⟨S2x1024x48x128, .f32⟩
  | .hbm, ⟨88, _⟩ => ⟨S2x1024x48, .i32⟩
  | .local _ .vmem, ⟨0, _⟩ => ⟨S1x128x336, .f32⟩
  | .local _ .vmem, ⟨1, _⟩ => ⟨S1x128x336, .f32⟩
  | .local _ .vmem, ⟨2, _⟩ => ⟨S1x64x42, .f32⟩
  | .local _ .vmem, ⟨3, _⟩ => ⟨S1x64x42, .f32⟩
  | .local _ .vmem, ⟨4, _⟩ => ⟨S1x42x1024, .f32⟩
  | .local _ .vmem, ⟨5, _⟩ => ⟨S1x42x1024, .f32⟩
  | .local _ .vmem, ⟨6, _⟩ => ⟨S128x16, .f32⟩
  | .local _ .vmem, ⟨7, _⟩ => ⟨S1312x128, .f32⟩
  | .local _ .vmem, ⟨8, _⟩ => ⟨S8x128, .f32⟩
  | .local _ .vmem, ⟨9, _⟩ => ⟨S1x3072x128, .f32⟩
  | .local _ .vmem, ⟨10, _⟩ => ⟨S1x3072x128, .f32⟩
  | .local _ .vmem, ⟨11, _⟩ => ⟨S1x64x128, .i32⟩
  | .local _ .vmem, ⟨12, _⟩ => ⟨S1x64x128, .i32⟩
  | .local _ .vmem, ⟨13, _⟩ => ⟨S128x128, .f32⟩
  | _, _ => ⟨S2x1024x14x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_cst_0 : Ref sig .tc := ⟨.hbm, 11, rfl⟩
abbrev main_cst_1 : Ref sig .tc := ⟨.hbm, 12, rfl⟩
abbrev main_cst_2 : Ref sig .tc := ⟨.hbm, 13, rfl⟩
abbrev main_v0 : Ref sig .tc := ⟨.hbm, 14, rfl⟩
abbrev main_v1 : Ref sig .tc := ⟨.hbm, 15, rfl⟩
abbrev main_cst_3 : Ref sig .tc := ⟨.hbm, 16, rfl⟩
abbrev main_v2 : Ref sig .tc := ⟨.hbm, 17, rfl⟩
abbrev main_c : Ref sig .tc := ⟨.hbm, 18, rfl⟩
abbrev main_v3 : Ref sig .tc := ⟨.hbm, 19, rfl⟩
abbrev main_v4 : Ref sig .tc := ⟨.hbm, 20, rfl⟩
abbrev main_cst_4 : Ref sig .tc := ⟨.hbm, 21, rfl⟩
abbrev main_v5 : Ref sig .tc := ⟨.hbm, 22, rfl⟩
abbrev main_c_5 : Ref sig .tc := ⟨.hbm, 23, rfl⟩
abbrev main_v6 : Ref sig .tc := ⟨.hbm, 24, rfl⟩
abbrev main_v7 : Ref sig .tc := ⟨.hbm, 25, rfl⟩
abbrev main_c_6 : Ref sig .tc := ⟨.hbm, 26, rfl⟩
abbrev main_v8 : Ref sig .tc := ⟨.hbm, 27, rfl⟩
abbrev main_v9 : Ref sig .tc := ⟨.hbm, 28, rfl⟩
abbrev main_c_7 : Ref sig .tc := ⟨.hbm, 29, rfl⟩
abbrev main_v10 : Ref sig .tc := ⟨.hbm, 30, rfl⟩
abbrev main_c_8 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_cst_9 : Ref sig .tc := ⟨.hbm, 35, rfl⟩
abbrev main_cst_10 : Ref sig .tc := ⟨.hbm, 36, rfl⟩
abbrev main_call0_v0 : Ref sig .tc := ⟨.hbm, 37, rfl⟩
abbrev main_call0_v1 : Ref sig .tc := ⟨.hbm, 38, rfl⟩
abbrev main_call0_v2 : Ref sig .tc := ⟨.hbm, 39, rfl⟩
abbrev main_call0_cst : Ref sig .tc := ⟨.hbm, 40, rfl⟩
abbrev main_call0_v3 : Ref sig .tc := ⟨.hbm, 41, rfl⟩
abbrev main_call0_v4 : Ref sig .tc := ⟨.hbm, 42, rfl⟩
abbrev main_call0_cst_0 : Ref sig .tc := ⟨.hbm, 43, rfl⟩
abbrev main_call0_v5 : Ref sig .tc := ⟨.hbm, 44, rfl⟩
abbrev main_call0_v6 : Ref sig .tc := ⟨.hbm, 45, rfl⟩
abbrev main_call0_v7 : Ref sig .tc := ⟨.hbm, 46, rfl⟩
abbrev main_call0_cst_1 : Ref sig .tc := ⟨.hbm, 47, rfl⟩
abbrev main_call0_v8 : Ref sig .tc := ⟨.hbm, 48, rfl⟩
abbrev main_call0_v9 : Ref sig .tc := ⟨.hbm, 49, rfl⟩
abbrev main_call0_v10 : Ref sig .tc := ⟨.hbm, 50, rfl⟩
abbrev main_call0_v11 : Ref sig .tc := ⟨.hbm, 51, rfl⟩
abbrev main_call0_v12 : Ref sig .tc := ⟨.hbm, 52, rfl⟩
abbrev main_call0_v13 : Ref sig .tc := ⟨.hbm, 53, rfl⟩
abbrev main_call0_v14 : Ref sig .tc := ⟨.hbm, 54, rfl⟩
abbrev main_call0_v15 : Ref sig .tc := ⟨.hbm, 55, rfl⟩
abbrev main_call0_v16 : Ref sig .tc := ⟨.hbm, 56, rfl⟩
abbrev main_v14 : Ref sig .tc := ⟨.hbm, 57, rfl⟩
abbrev main_v15 : Ref sig .tc := ⟨.hbm, 58, rfl⟩
abbrev main_v16 : Ref sig .tc := ⟨.hbm, 59, rfl⟩
abbrev main_v17 : Ref sig .tc := ⟨.hbm, 60, rfl⟩
abbrev main_c_11 : Ref sig .tc := ⟨.hbm, 61, rfl⟩
abbrev main_v18 : Ref sig .tc := ⟨.hbm, 62, rfl⟩
abbrev main_v19 : Ref sig .tc := ⟨.hbm, 63, rfl⟩
abbrev main_cst_12 : Ref sig .tc := ⟨.hbm, 64, rfl⟩
abbrev main_v20 : Ref sig .tc := ⟨.hbm, 65, rfl⟩
abbrev main_v21 : Ref sig .tc := ⟨.hbm, 66, rfl⟩
abbrev main_c_13 : Ref sig .tc := ⟨.hbm, 67, rfl⟩
abbrev main_v22 : Ref sig .tc := ⟨.hbm, 68, rfl⟩
abbrev main_v23 : Ref sig .tc := ⟨.hbm, 69, rfl⟩
abbrev main_v24 : Ref sig .tc := ⟨.hbm, 70, rfl⟩
abbrev main_c_14 : Ref sig .tc := ⟨.hbm, 71, rfl⟩
abbrev main_v25 : Ref sig .tc := ⟨.hbm, 72, rfl⟩
abbrev main_v26 : Ref sig .tc := ⟨.hbm, 73, rfl⟩
abbrev main_v27 : Ref sig .tc := ⟨.hbm, 74, rfl⟩
abbrev main_c_15 : Ref sig .tc := ⟨.hbm, 75, rfl⟩
abbrev main_v28 : Ref sig .tc := ⟨.hbm, 76, rfl⟩
abbrev main_v29 : Ref sig .tc := ⟨.hbm, 77, rfl⟩
abbrev main_v30 : Ref sig .tc := ⟨.hbm, 78, rfl⟩
abbrev main_c_16 : Ref sig .tc := ⟨.hbm, 79, rfl⟩
abbrev main_v31 : Ref sig .tc := ⟨.hbm, 80, rfl⟩
abbrev main_v32 : Ref sig .tc := ⟨.hbm, 81, rfl⟩
abbrev main_v33 : Ref sig .tc := ⟨.hbm, 82, rfl⟩
abbrev main_v34 : Ref sig .tc := ⟨.hbm, 83, rfl⟩
abbrev main_v35 : Ref sig .tc := ⟨.hbm, 84, rfl⟩
abbrev main_v36_0 : Ref sig .tc := ⟨.hbm, 85, rfl⟩
abbrev main_v36_1 : Ref sig .tc := ⟨.hbm, 86, rfl⟩
abbrev main_v37 : Ref sig .tc := ⟨.hbm, 87, rfl⟩
abbrev main_v38 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x336 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x64x42 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x42x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S128x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1312x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x3072x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x64x128 .i32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== KernelIdeal.lean ====
variable {F : FTy → Type} [FloatOps F] [Named F]
def κ : String → Option EReal := fun
  | "far" => some ⊤
  | "inv_sigma" => some ((4 / 5 : ℝ) : EReal)
  | _ => none
-- ==== ReferenceIdeal.lean ====
abbrev S2x1024x14x3 : Shape := ⟨4, ![2, 1024, 14, 3]⟩
abbrev S2x1024x14 : Shape := ⟨3, ![2, 1024, 14]⟩
abbrev S2x1024 : Shape := ⟨2, ![2, 1024]⟩
abbrev S66x16 : Shape := ⟨2, ![66, 16]⟩
abbrev S16 : Shape := ⟨1, ![16]⟩
abbrev S416x128 : Shape := ⟨2, ![416, 128]⟩
abbrev S128 : Shape := ⟨1, ![128]⟩
abbrev S4 : Shape := ⟨1, ![4]⟩
abbrev S1x4 : Shape := ⟨2, ![1, 4]⟩
abbrev S21x4 : Shape := ⟨2, ![21, 4]⟩
abbrev S2x1024x1 : Shape := ⟨3, ![2, 1024, 1]⟩
abbrev S2x1024x4 : Shape := ⟨3, ![2, 1024, 4]⟩
abbrev S2x1024x4x1 : Shape := ⟨4, ![2, 1024, 4, 1]⟩
abbrev S2x1024x4x3 : Shape := ⟨4, ![2, 1024, 4, 3]⟩
abbrev S2x1024x1x3 : Shape := ⟨4, ![2, 1024, 1, 3]⟩
abbrev S2x1024x3 : Shape := ⟨3, ![2, 1024, 3]⟩
abbrev S_ : Shape := ⟨0, ![]⟩
abbrev S2x1024x5x3 : Shape := ⟨4, ![2, 1024, 5, 3]⟩
abbrev S2x1x1024x3 : Shape := ⟨4, ![2, 1, 1024, 3]⟩
abbrev S2x1024x1024x3 : Shape := ⟨4, ![2, 1024, 1024, 3]⟩
abbrev S2x1024x1024 : Shape := ⟨3, ![2, 1024, 1024]⟩
abbrev S2x1x1024 : Shape := ⟨3, ![2, 1, 1024]⟩
abbrev S2x1024x48 : Shape := ⟨3, ![2, 1024, 48]⟩
abbrev S2x1024x48x1 : Shape := ⟨4, ![2, 1024, 48, 1]⟩
abbrev S2x1024x48x5x3 : Shape := ⟨5, ![2, 1024, 48, 5, 3]⟩
abbrev S2x1024x1x5x1x3 : Shape := ⟨6, ![2, 1024, 1, 5, 1, 3]⟩
abbrev S2x1024x48x1x5x3 : Shape := ⟨6, ![2, 1024, 48, 1, 5, 3]⟩
abbrev S2x1024x48x5x5x3 : Shape := ⟨6, ![2, 1024, 48, 5, 5, 3]⟩
abbrev S2x1024x48x5x5 : Shape := ⟨5, ![2, 1024, 48, 5, 5]⟩
abbrev S15 : Shape := ⟨1, ![15]⟩
abbrev S1 : Shape := ⟨1, ![1]⟩
abbrev S2x1024x48x5x5x1 : Shape := ⟨6, ![2, 1024, 48, 5, 5, 1]⟩
abbrev S1x1x1x1x1x16 : Shape := ⟨6, ![1, 1, 1, 1, 1, 16]⟩
abbrev S2x1024x48x5x5x16 : Shape := ⟨6, ![2, 1024, 48, 5, 5, 16]⟩
abbrev S2x1024x48x400 : Shape := ⟨4, ![2, 1024, 48, 400]⟩
abbrev S66 : Shape := ⟨1, ![66]⟩
abbrev S1x1x1x66 : Shape := ⟨4, ![1, 1, 1, 66]⟩
abbrev S2x1024x48x66 : Shape := ⟨4, ![2, 1024, 48, 66]⟩
abbrev S2x1024x48x16 : Shape := ⟨4, ![2, 1024, 48, 16]⟩
abbrev S1x1x1x16 : Shape := ⟨4, ![1, 1, 1, 16]⟩
abbrev S2x1024x48x416 : Shape := ⟨4, ![2, 1024, 48, 416]⟩
abbrev S2x1024x48x128 : Shape := ⟨4, ![2, 1024, 48, 128]⟩
abbrev S1x1x1x128 : Shape := ⟨4, ![1, 1, 1, 128]⟩

abbrev nBuf : Space → Nat
  | .hbm => 234
  | .vmem => 0
  | .smem => 0
  | _ => 0

abbrev hbmTy0_0 (i : Nat) : BufTy := match i % 128 with
  | 0 => ⟨S2x1024x14x3, .f32⟩
  | 1 => ⟨S2x1024x14, .f32⟩
  | 2 => ⟨S2x1024, .i32⟩
  | 3 => ⟨S2x1024, .i32⟩
  | 4 => ⟨S2x1024, .i32⟩
  | 5 => ⟨S66x16, .f32⟩
  | 6 => ⟨S16, .f32⟩
  | 7 => ⟨S416x128, .f32⟩
  | 8 => ⟨S128, .f32⟩
  | 9 => ⟨S128, .f32⟩
  | 10 => ⟨S4, .i32⟩
  | 11 => ⟨S1x4, .i32⟩
  | 12 => ⟨S21x4, .i32⟩
  | 13 => ⟨S2x1024x1, .i32⟩
  | 14 => ⟨S2x1024x4, .i32⟩
  | 15 => ⟨S2x1024x4x1, .i32⟩
  | 16 => ⟨S2x1024x4x3, .f32⟩
  | 17 => ⟨S2x1024x4x1, .i32⟩
  | 18 => ⟨S2x1024x4, .f32⟩
  | 19 => ⟨S2x1024x1x3, .f32⟩
  | 20 => ⟨S2x1024x3, .f32⟩
  | 21 => ⟨S2x1024x1x3, .f32⟩
  | 22 => ⟨S2x1024x3, .f32⟩
  | 23 => ⟨S2x1024x1x3, .f32⟩
  | 24 => ⟨S2x1024x3, .f32⟩
  | 25 => ⟨S2x1024x3, .f32⟩
  | 26 => ⟨S2x1024x3, .f32⟩
  | 27 => ⟨S2x1024x1, .f32⟩
  | 28 => ⟨S2x1024, .f32⟩
  | 29 => ⟨S2x1024x1, .f32⟩
  | 30 => ⟨S2x1024, .f32⟩
  | 31 => ⟨S2x1024, .f32⟩
  | 32 => ⟨S2x1024x1, .f32⟩
  | 33 => ⟨S2x1024, .f32⟩
  | 34 => ⟨S2x1024x1, .f32⟩
  | 35 => ⟨S2x1024, .f32⟩
  | 36 => ⟨S2x1024, .f32⟩
  | 37 => ⟨S2x1024, .f32⟩
  | 38 => ⟨S2x1024x1, .f32⟩
  | 39 => ⟨S2x1024, .f32⟩
  | 40 => ⟨S2x1024x1, .f32⟩
  | 41 => ⟨S2x1024, .f32⟩
  | 42 => ⟨S2x1024, .f32⟩
  | 43 => ⟨S2x1024x1, .f32⟩
  | 44 => ⟨S2x1024, .f32⟩
  | 45 => ⟨S2x1024x1, .f32⟩
  | 46 => ⟨S2x1024, .f32⟩
  | 47 => ⟨S2x1024, .f32⟩
  | 48 => ⟨S2x1024, .f32⟩
  | 49 => ⟨S2x1024x1, .f32⟩
  | 50 => ⟨S2x1024, .f32⟩
  | 51 => ⟨S2x1024x1, .f32⟩
  | 52 => ⟨S2x1024, .f32⟩
  | 53 => ⟨S2x1024, .f32⟩
  | 54 => ⟨S2x1024x1, .f32⟩
  | 55 => ⟨S2x1024, .f32⟩
  | 56 => ⟨S2x1024x1, .f32⟩
  | 57 => ⟨S2x1024, .f32⟩
  | 58 => ⟨S2x1024, .f32⟩
  | 59 => ⟨S2x1024, .f32⟩
  | 60 => ⟨S2x1024x1, .f32⟩
  | 61 => ⟨S2x1024x1, .f32⟩
  | 62 => ⟨S2x1024x1, .f32⟩
  | 63 => ⟨S2x1024x3, .f32⟩
  | 64 => ⟨S_, .f32⟩
  | 65 => ⟨S2x1024x3, .f32⟩
  | 66 => ⟨S2x1024x3, .f32⟩
  | 67 => ⟨S_, .f32⟩
  | 68 => ⟨S2x1024x3, .f32⟩
  | 69 => ⟨S2x1024x3, .f32⟩
  | 70 => ⟨S2x1024x3, .f32⟩
  | 71 => ⟨S_, .f32⟩
  | 72 => ⟨S2x1024x3, .f32⟩
  | 73 => ⟨S2x1024x3, .f32⟩
  | 74 => ⟨S2x1024x3, .f32⟩
  | 75 => ⟨S2x1024x3, .f32⟩
  | 76 => ⟨S2x1024x1x3, .f32⟩
  | 77 => ⟨S2x1024x5x3, .f32⟩
  | 78 => ⟨S2x1024x1, .f32⟩
  | 79 => ⟨S2x1024, .f32⟩
  | 80 => ⟨S2x1024x1x3, .f32⟩
  | 81 => ⟨S2x1x1024x3, .f32⟩
  | 82 => ⟨S2x1024x1024x3, .f32⟩
  | 83 => ⟨S2x1024x1024x3, .f32⟩
  | 84 => ⟨S2x1024x1024x3, .f32⟩
  | 85 => ⟨S2x1024x1024x3, .f32⟩
  | 86 => ⟨S_, .f32⟩
  | 87 => ⟨S2x1024x1024, .f32⟩
  | 88 => ⟨S_, .f32⟩
  | 89 => ⟨S2x1024x1024, .f32⟩
  | 90 => ⟨S2x1024x1024, .f32⟩
  | 91 => ⟨S2x1024x1024, .f32⟩
  | 92 => ⟨S2x1024x1, .f32⟩
  | 93 => ⟨S2x1x1024, .f32⟩
  | 94 => ⟨S2x1024x1024, .f32⟩
  | 95 => ⟨S2x1024x1024, .f32⟩
  | 96 => ⟨S2x1024x1024, .f32⟩
  | 97 => ⟨S_, .f32⟩
  | 98 => ⟨S_, .f32⟩
  | 99 => ⟨S2x1024x1024, .f32⟩
  | 100 => ⟨S_, .f32⟩
  | 101 => ⟨S2x1024x1024, .f32⟩
  | 102 => ⟨S2x1024x1024, .f32⟩
  | 103 => ⟨S_, .f32⟩
  | 104 => ⟨S_, .f32⟩
  | 105 => ⟨S2x1024x1024, .f32⟩
  | 106 => ⟨S2x1024x1024, .f32⟩
  | 107 => ⟨S2x1024x1024, .f32⟩
  | 108 => ⟨S2x1024x1024, .f32⟩
  | 109 => ⟨S2x1024x48, .f32⟩
  | 110 => ⟨S2x1024x48, .i32⟩
  | 111 => ⟨S2x1024x48x1, .i32⟩
  | 112 => ⟨S2x1024x48x5x3, .f32⟩
  | 113 => ⟨S2x1024x1x5x1x3, .f32⟩
  | 114 => ⟨S2x1024x48x1x5x3, .f32⟩
  | 115 => ⟨S2x1024x48x5x5x3, .f32⟩
  | 116 => ⟨S2x1024x48x5x5x3, .f32⟩
  | 117 => ⟨S2x1024x48x5x5x3, .f32⟩
  | 118 => ⟨S2x1024x48x5x5x3, .f32⟩
  | 119 => ⟨S_, .f32⟩
  | 120 => ⟨S2x1024x48x5x5, .f32⟩
  | 121 => ⟨S_, .f32⟩
  | 122 => ⟨S2x1024x48x5x5, .f32⟩
  | 123 => ⟨S2x1024x48x5x5, .f32⟩
  | 124 => ⟨S2x1024x48x5x5, .f32⟩
  | 125 => ⟨S_, .f32⟩
  | 126 => ⟨S_, .f32⟩
  | 127 => ⟨S_, .f32⟩
  | _ => ⟨S2x1024x14x3, .f32⟩

abbrev hbmTy0_1 (i : Nat) : BufTy := match i % 128 with
  | 0 => ⟨S_, .f32⟩
  | 1 => ⟨S_, .f32⟩
  | 2 => ⟨S_, .f32⟩
  | 3 => ⟨S_, .f32⟩
  | 4 => ⟨S15, .f32⟩
  | 5 => ⟨S_, .f32⟩
  | 6 => ⟨S15, .f32⟩
  | 7 => ⟨S15, .f32⟩
  | 8 => ⟨S1, .f32⟩
  | 9 => ⟨S_, .f32⟩
  | 10 => ⟨S15, .f32⟩
  | 11 => ⟨S15, .f32⟩
  | 12 => ⟨S15, .f32⟩
  | 13 => ⟨S15, .f32⟩
  | 14 => ⟨S1, .f32⟩
  | 15 => ⟨S15, .f32⟩
  | 16 => ⟨S15, .f32⟩
  | 17 => ⟨S15, .f32⟩
  | 18 => ⟨S1, .f32⟩
  | 19 => ⟨S16, .f32⟩
  | 20 => ⟨S2x1024x48x5x5x1, .f32⟩
  | 21 => ⟨S1x1x1x1x1x16, .f32⟩
  | 22 => ⟨S2x1024x48x5x5x16, .f32⟩
  | 23 => ⟨S2x1024x48x5x5x16, .f32⟩
  | 24 => ⟨S2x1024x48x5x5x16, .f32⟩
  | 25 => ⟨S_, .f32⟩
  | 26 => ⟨S2x1024x48x5x5x16, .f32⟩
  | 27 => ⟨S2x1024x48x5x5x16, .f32⟩
  | 28 => ⟨S2x1024x48x5x5x16, .f32⟩
  | 29 => ⟨S2x1024x48x5x5x16, .f32⟩
  | 30 => ⟨S2x1024x48x5x5x16, .f32⟩
  | 31 => ⟨S2x1024x48x400, .f32⟩
  | 32 => ⟨S2x1024x1, .i32⟩
  | 33 => ⟨S2x1x1024, .i32⟩
  | 34 => ⟨S2x1024x1024, .i32⟩
  | 35 => ⟨S2x1024x1024, .i32⟩
  | 36 => ⟨S2x1024x1024, .i32⟩
  | 37 => ⟨S2x1024x48x1, .i32⟩
  | 38 => ⟨S2x1024x48, .i32⟩
  | 39 => ⟨S2x1024x1, .i32⟩
  | 40 => ⟨S2x1x1024, .i32⟩
  | 41 => ⟨S2x1024x1024, .i32⟩
  | 42 => ⟨S2x1024x1024, .i32⟩
  | 43 => ⟨S2x1024x1024, .i1⟩
  | 44 => ⟨S2x1024x1024, .i32⟩
  | 45 => ⟨S2x1024x48x1, .i32⟩
  | 46 => ⟨S2x1024x48, .i32⟩
  | 47 => ⟨S_, .i32⟩
  | 48 => ⟨S2x1024x48, .i32⟩
  | 49 => ⟨S2x1024x48, .i32⟩
  | 50 => ⟨S_, .i32⟩
  | 51 => ⟨S2x1024x48, .i32⟩
  | 52 => ⟨S2x1024x48, .i32⟩
  | 53 => ⟨S_, .i32⟩
  | 54 => ⟨S2x1024x48, .i32⟩
  | 55 => ⟨S2x1024x48, .i32⟩
  | 56 => ⟨S2x1024x48, .i32⟩
  | 57 => ⟨S_, .i32⟩
  | 58 => ⟨S2x1024x48, .i32⟩
  | 59 => ⟨S2x1024x48, .i32⟩
  | 60 => ⟨S_, .i32⟩
  | 61 => ⟨S2x1024x48, .i32⟩
  | 62 => ⟨S2x1024x48, .i32⟩
  | 63 => ⟨S2x1024x48, .i32⟩
  | 64 => ⟨S2x1024x48x1, .i32⟩
  | 65 => ⟨S66, .i32⟩
  | 66 => ⟨S1x1x1x66, .i32⟩
  | 67 => ⟨S2x1024x48x66, .i32⟩
  | 68 => ⟨S2x1024x48x66, .i32⟩
  | 69 => ⟨S2x1024x48x66, .i1⟩
  | 70 => ⟨S2x1024x48x66, .f32⟩
  | 71 => ⟨S2x1024x48x16, .f32⟩
  | 72 => ⟨S1x1x1x16, .f32⟩
  | 73 => ⟨S2x1024x48x16, .f32⟩
  | 74 => ⟨S2x1024x48x16, .f32⟩
  | 75 => ⟨S2x1024x48x416, .f32⟩
  | 76 => ⟨S2x1024x48x128, .f32⟩
  | 77 => ⟨S_, .f32⟩
  | 78 => ⟨S2x1024x48, .f32⟩
  | 79 => ⟨S2x1024x48x1, .f32⟩
  | 80 => ⟨S_, .f32⟩
  | 81 => ⟨S2x1024x48x1, .f32⟩
  | 82 => ⟨S2x1024x48x1, .f32⟩
  | 83 => ⟨S2x1024x48x128, .f32⟩
  | 84 => ⟨S2x1024x48x128, .f32⟩
  | 85 => ⟨S2x1024x48x128, .f32⟩
  | 86 => ⟨S_, .f32⟩
  | 87 => ⟨S2x1024x48, .f32⟩
  | 88 => ⟨S2x1024x48x1, .f32⟩
  | 89 => ⟨S_, .f32⟩
  | 90 => ⟨S2x1024x48x1, .f32⟩
  | 91 => ⟨S2x1024x48x1, .f32⟩
  | 92 => ⟨S2x1024x48x128, .f32⟩
  | 93 => ⟨S2x1024x48x128, .f32⟩
  | 94 => ⟨S1x1x1x128, .f32⟩
  | 95 => ⟨S2x1024x48x128, .f32⟩
  | 96 => ⟨S2x1024x48x128, .f32⟩
  | 97 => ⟨S_, .f32⟩
  | 98 => ⟨S2x1024x48x1, .f32⟩
  | 99 => ⟨S2x1024x48x1, .f32⟩
  | 100 => ⟨S2x1024x48x1, .f32⟩
  | 101 => ⟨S2x1024x48x128, .f32⟩
  | 102 => ⟨S2x1024x48x128, .f32⟩
  | 103 => ⟨S1x1x1x128, .f32⟩
  | 104 => ⟨S2x1024x48x128, .f32⟩
  | 105 => ⟨S2x1024x48x128, .f32⟩
  | _ => ⟨S2x1024x14x3, .f32⟩

abbrev hbmTy (i : Nat) : BufTy := match i / 128 with
  | 0 => hbmTy0_0 i
  | 1 => hbmTy0_1 i
  | _ => ⟨S2x1024x14x3, .f32⟩

abbrev bufTy : (tb : Table) → Fin (tcTables nBuf tb) → BufTy
  | .hbm, ⟨i, _⟩ => hbmTy i
  | _, _ => ⟨S2x1024x14x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_cst : Ref sig .tc := ⟨.hbm, 64, rfl⟩
abbrev main_v54 : Ref sig .tc := ⟨.hbm, 65, rfl⟩
abbrev main_v55 : Ref sig .tc := ⟨.hbm, 66, rfl⟩
abbrev main_cst_0 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_cst_1 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_cst_2 : Ref sig .tc := ⟨.hbm, 86, rfl⟩
abbrev main_v73 : Ref sig .tc := ⟨.hbm, 87, rfl⟩
abbrev main_cst_3 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_cst_4 : Ref sig .tc := ⟨.hbm, 97, rfl⟩
abbrev main_v82 : Ref sig .tc := ⟨.hbm, 98, rfl⟩
abbrev main_v83 : Ref sig .tc := ⟨.hbm, 99, rfl⟩
abbrev main_cst_5 : Ref sig .tc := ⟨.hbm, 100, rfl⟩
abbrev main_v84 : Ref sig .tc := ⟨.hbm, 101, rfl⟩
abbrev main_v85 : Ref sig .tc := ⟨.hbm, 102, rfl⟩
abbrev main_cst_6 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_values : Ref sig .tc := ⟨.hbm, 109, rfl⟩
abbrev main_indices : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_cst_7 : Ref sig .tc := ⟨.hbm, 119, rfl⟩
abbrev main_v99 : Ref sig .tc := ⟨.hbm, 120, rfl⟩
abbrev main_cst_8 : Ref sig .tc := ⟨.hbm, 121, rfl⟩
abbrev main_v100 : Ref sig .tc := ⟨.hbm, 122, rfl⟩
abbrev main_v101 : Ref sig .tc := ⟨.hbm, 123, rfl⟩
abbrev main_v102 : Ref sig .tc := ⟨.hbm, 124, rfl⟩
abbrev main_cst_9 : Ref sig .tc := ⟨.hbm, 125, rfl⟩
abbrev main_cst_10 : Ref sig .tc := ⟨.hbm, 126, rfl⟩
abbrev main_call0_v0 : Ref sig .tc := ⟨.hbm, 127, rfl⟩
abbrev main_call0_v1 : Ref sig .tc := ⟨.hbm, 128, rfl⟩
abbrev main_call0_v2 : Ref sig .tc := ⟨.hbm, 129, rfl⟩
abbrev main_call0_cst : Ref sig .tc := ⟨.hbm, 130, rfl⟩
abbrev main_call0_v3 : Ref sig .tc := ⟨.hbm, 131, rfl⟩
abbrev main_call0_v4 : Ref sig .tc := ⟨.hbm, 132, rfl⟩
abbrev main_call0_cst_0 : Ref sig .tc := ⟨.hbm, 133, rfl⟩
abbrev main_call0_v5 : Ref sig .tc := ⟨.hbm, 134, rfl⟩
abbrev main_call0_v6 : Ref sig .tc := ⟨.hbm, 135, rfl⟩
abbrev main_call0_v7 : Ref sig .tc := ⟨.hbm, 136, rfl⟩
abbrev main_call0_cst_1 : Ref sig .tc := ⟨.hbm, 137, rfl⟩
abbrev main_call0_v8 : Ref sig .tc := ⟨.hbm, 138, rfl⟩
abbrev main_call0_v9 : Ref sig .tc := ⟨.hbm, 139, rfl⟩
abbrev main_call0_v10 : Ref sig .tc := ⟨.hbm, 140, rfl⟩
abbrev main_call0_v11 : Ref sig .tc := ⟨.hbm, 141, rfl⟩
abbrev main_call0_v12 : Ref sig .tc := ⟨.hbm, 142, rfl⟩
abbrev main_call0_v13 : Ref sig .tc := ⟨.hbm, 143, rfl⟩
abbrev main_call0_v14 : Ref sig .tc := ⟨.hbm, 144, rfl⟩
abbrev main_call0_v15 : Ref sig .tc := ⟨.hbm, 145, rfl⟩
abbrev main_call0_v16 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_cst_11 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_v114 : Ref sig .tc := ⟨.hbm, 159, rfl⟩
abbrev main_v115 : Ref sig .tc := ⟨.hbm, 160, rfl⟩
abbrev main_v116 : Ref sig .tc := ⟨.hbm, 161, rfl⟩
abbrev main_v117 : Ref sig .tc := ⟨.hbm, 162, rfl⟩
abbrev main_v118 : Ref sig .tc := ⟨.hbm, 163, rfl⟩
abbrev main_v119 : Ref sig .tc := ⟨.hbm, 164, rfl⟩
abbrev main_v120 : Ref sig .tc := ⟨.hbm, 165, rfl⟩
abbrev main_v121 : Ref sig .tc := ⟨.hbm, 166, rfl⟩
abbrev main_v122 : Ref sig .tc := ⟨.hbm, 167, rfl⟩
abbrev main_v123 : Ref sig .tc := ⟨.hbm, 168, rfl⟩
abbrev main_v124 : Ref sig .tc := ⟨.hbm, 169, rfl⟩
abbrev main_v125 : Ref sig .tc := ⟨.hbm, 170, rfl⟩
abbrev main_v126 : Ref sig .tc := ⟨.hbm, 171, rfl⟩
abbrev main_v127 : Ref sig .tc := ⟨.hbm, 172, rfl⟩
abbrev main_v128 : Ref sig .tc := ⟨.hbm, 173, rfl⟩
abbrev main_v129 : Ref sig .tc := ⟨.hbm, 174, rfl⟩
abbrev main_c : Ref sig .tc := ⟨.hbm, 175, rfl⟩
abbrev main_v130 : Ref sig .tc := ⟨.hbm, 176, rfl⟩
abbrev main_v131 : Ref sig .tc := ⟨.hbm, 177, rfl⟩
abbrev main_c_12 : Ref sig .tc := ⟨.hbm, 178, rfl⟩
abbrev main_v132 : Ref sig .tc := ⟨.hbm, 179, rfl⟩
abbrev main_v133 : Ref sig .tc := ⟨.hbm, 180, rfl⟩
abbrev main_c_13 : Ref sig .tc := ⟨.hbm, 181, rfl⟩
abbrev main_v134 : Ref sig .tc := ⟨.hbm, 182, rfl⟩
abbrev main_v135 : Ref sig .tc := ⟨.hbm, 183, rfl⟩
abbrev main_v136 : Ref sig .tc := ⟨.hbm, 184, rfl⟩
abbrev main_c_14 : Ref sig .tc := ⟨.hbm, 185, rfl⟩
abbrev main_v137 : Ref sig .tc := ⟨.hbm, 186, rfl⟩
abbrev main_v138 : Ref sig .tc := ⟨.hbm, 187, rfl⟩
abbrev main_c_15 : Ref sig .tc := ⟨.hbm, 188, rfl⟩
abbrev main_v139 : Ref sig .tc := ⟨.hbm, 189, rfl⟩
abbrev main_v140 : Ref sig .tc := ⟨.hbm, 190, rfl⟩
abbrev main_v141 : Ref sig .tc := ⟨.hbm, 191, rfl⟩
abbrev main_v142 : Ref sig .tc := ⟨.hbm, 192, rfl⟩
abbrev main_v143 : Ref sig .tc := ⟨.hbm, 193, rfl⟩
abbrev main_v144 : Ref sig .tc := ⟨.hbm, 194, rfl⟩
abbrev main_v145 : Ref sig .tc := ⟨.hbm, 195, rfl⟩
abbrev main_v146 : Ref sig .tc := ⟨.hbm, 196, rfl⟩
abbrev main_v147 : Ref sig .tc := ⟨.hbm, 197, rfl⟩
abbrev main_v148 : Ref sig .tc := ⟨.hbm, 198, rfl⟩
abbrev main_v149 : Ref sig .tc := ⟨.hbm, 199, rfl⟩
abbrev main_v150 : Ref sig .tc := ⟨.hbm, 200, rfl⟩
abbrev main_v151 : Ref sig .tc := ⟨.hbm, 201, rfl⟩
abbrev main_v152 : Ref sig .tc := ⟨.hbm, 202, rfl⟩
abbrev main_v153 : Ref sig .tc := ⟨.hbm, 203, rfl⟩
abbrev main_v154 : Ref sig .tc := ⟨.hbm, 204, rfl⟩
abbrev main_cst_16 : Ref sig .tc := ⟨.hbm, 205, rfl⟩
abbrev main_v155 : Ref sig .tc := ⟨.hbm, 206, rfl⟩
abbrev main_v156 : Ref sig .tc := ⟨.hbm, 207, rfl⟩
abbrev main_cst_17 : Ref sig .tc := ⟨.hbm, 208, rfl⟩
abbrev main_v157 : Ref sig .tc := ⟨.hbm, 209, rfl⟩
abbrev main_v158 : Ref sig .tc := ⟨.hbm, 210, rfl⟩
abbrev main_v159 : Ref sig .tc := ⟨.hbm, 211, rfl⟩
abbrev main_v160 : Ref sig .tc := ⟨.hbm, 212, rfl⟩
abbrev main_v161 : Ref sig .tc := ⟨.hbm, 213, rfl⟩
abbrev main_cst_18 : Ref sig .tc := ⟨.hbm, 214, rfl⟩
abbrev main_v162 : Ref sig .tc := ⟨.hbm, 215, rfl⟩
abbrev main_v163 : Ref sig .tc := ⟨.hbm, 216, rfl⟩
abbrev main_cst_19 : Ref sig .tc := ⟨.hbm, 217, rfl⟩
abbrev main_v164 : Ref sig .tc := ⟨.hbm, 218, rfl⟩
abbrev main_v165 : Ref sig .tc := ⟨.hbm, 219, rfl⟩
abbrev main_v166 : Ref sig .tc := ⟨.hbm, 220, rfl⟩
abbrev main_v167 : Ref sig .tc := ⟨.hbm, 221, rfl⟩
abbrev main_v168 : Ref sig .tc := ⟨.hbm, 222, rfl⟩
abbrev main_v169 : Ref sig .tc := ⟨.hbm, 223, rfl⟩
abbrev main_v170 : Ref sig .tc := ⟨.hbm, 224, rfl⟩
abbrev main_cst_20 : Ref sig .tc := ⟨.hbm, 225, rfl⟩
abbrev main_v171 : Ref sig .tc := ⟨.hbm, 226, rfl⟩
abbrev main_v172 : Ref sig .tc := ⟨.hbm, 227, rfl⟩
abbrev main_v173 : Ref sig .tc := ⟨.hbm, 228, rfl⟩
abbrev main_v174 : Ref sig .tc := ⟨.hbm, 229, rfl⟩
abbrev main_v175 : Ref sig .tc := ⟨.hbm, 230, rfl⟩
abbrev main_v176 : Ref sig .tc := ⟨.hbm, 231, rfl⟩
abbrev main_v177 : Ref sig .tc := ⟨.hbm, 232, rfl⟩
abbrev main_v178 : Ref sig .tc := ⟨.hbm, 233, rfl⟩

abbrev nD : Nat := 1
abbrev τ : Topo := Topo.v7x

variable {F : FTy → Type} [FloatOps F]
-- ==== Proof.Body.lean ====
/- The kernel body as closed forms: what one grid point writes into its two output blocks, as plain compositions of the
   printed operations over the arrays the point reads. The neighbour search is a recursion on the round; the feature
   stage is cut into the named steps of the kernel. -/
module

public import proofs.«01_k».proof.Proof.Gen.KernelIdeal.Frame

@[expose] public section

set_option maxRecDepth 16384

noncomputable section

namespace Cert.Edge

open Idealize.ShloMosaic Idealize.ShloMosaic.TcCoe Cert.KernelIdeal

variable {F : FTy → Type} [FloatOps F] [Named F]

/-! ## The neighbour search -/

/-- The lane number at each place of an 8 × 1024 slice. -/
def lanes : IVec S8x1024 32 := iota .tc S8x1024 32 [1] Gen.iota_S8x1024_d1_w32

/-- One round's choice: per row of the slice, the lowest lane that holds the row's minimum. -/
def pick (d : FVec F S8x1024 .f32) : IVec S8x1 32 :=
  shapeCast S8x1 (multiReductionI .minsi [1] S8
    (select (cmpf .oeq d (broadcastTo S8x1024 (shapeCast S8x1
      (multiReduction .minimumf [1] S8 d 0x7F800000#32 Gen.reduces_S8x1024_S8 (.inl rfl) rfl) Gen.shapeCasts_S8_S8x1)
      Gen.broadcasts_S8x1_S8x1024)) lanes (broadcast S8x1024 1024#32))
    2147483647#32 Gen.reduces_S8x1024_S8 rfl) Gen.shapeCasts_S8_S8x1

/-- One round's removal: the chosen lane of each row is put out of reach. -/
def drop (d : FVec F S8x1024 .f32) : FVec F S8x1024 .f32 :=
  select (cmpi .eq lanes (broadcastTo S8x1024 (pick d) Gen.broadcasts_S8x1_S8x1024))
    (broadcast S8x1024 (Named.named κ "far" 0x7149F2CA#32)) d

/-- The slice after `n` rounds of removal. -/
def after (d : FVec F S8x1024 .f32) : ℕ → FVec F S8x1024 .f32
  | 0 => d
  | n + 1 => drop (after d n)

/-- The choices of the 48 rounds, one column per round. -/
def cols (d : FVec F S8x1024 .f32) : IVec S8x48 32 :=
  concatenate S8x48 1 (List.ofFn fun n : Fin 48 => (⟨S8x1, pick (after d n)⟩ : (s : Shape) × (s.Idx → BitVec 32)))
    Gen.concatenates_S8x1_S8x1_S8x1_S8x1_S8x1_S8x1_S8x1_S8x1_S8x1_S8x1_S8x1_S8x1_S8x1_S8x1_S8x1_S8x1_S8x1_S8x1_S8x1_S8x1_S8x1_S8x1_S8x1_S8x1_S8x1_S8x1_S8x1_S8x1_S8x1_S8x1_S8x1_S8x1_S8x1_S8x1_S8x1_S8x1_S8x1_S8x1_S8x1_S8x1_S8x1_S8x1_S8x1_S8x1_S8x1_S8x1_S8x1_S8x1_S8x48_d1

/-- The neighbour numbers of the block's 64 residues: the choices of the eight slices of the distances `v`. -/
def picks (v : FVec F S64x1024 .f32) : IVec S64x48 32 :=
  concatenate S64x48 0
    [⟨S8x48, cols (extractStridedSlice S8x1024 ![0, 0] v Gen.slices_S64x1024_o0_0_S8x1024)⟩,
     ⟨S8x48, cols (extractStridedSlice S8x1024 ![8, 0] v Gen.slices_S64x1024_o8_0_S8x1024)⟩,
     ⟨S8x48, cols (extractStridedSlice S8x1024 ![16, 0] v Gen.slices_S64x1024_o16_0_S8x1024)⟩,
     ⟨S8x48, cols (extractStridedSlice S8x1024 ![24, 0] v Gen.slices_S64x1024_o24_0_S8x1024)⟩,
     ⟨S8x48, cols (extractStridedSlice S8x1024 ![32, 0] v Gen.slices_S64x1024_o32_0_S8x1024)⟩,
     ⟨S8x48, cols (extractStridedSlice S8x1024 ![40, 0] v Gen.slices_S64x1024_o40_0_S8x1024)⟩,
     ⟨S8x48, cols (extractStridedSlice S8x1024 ![48, 0] v Gen.slices_S64x1024_o48_0_S8x1024)⟩,
     ⟨S8x48, cols (extractStridedSlice S8x1024 ![56, 0] v Gen.slices_S64x1024_o56_0_S8x1024)⟩]
    Gen.concatenates_S8x48_S8x48_S8x48_S8x48_S8x48_S8x48_S8x48_S8x48_S64x48_d0

/-- The block of neighbour numbers as it is written: 48 columns and 80 columns of zeros. -/
def numBlock (p : IVec S64x48 32) : IVec S1x64x128 32 :=
  shapeCast S1x64x128 (concatenate S64x128 1 [⟨S64x48, p⟩, ⟨S64x80, broadcast S64x80 0#32⟩]
    Gen.concatenates_S64x48_S64x80_S64x128_d1) Gen.shapeCasts_S64x128_S1x64x128

variable (c : Dev nD) (i : grid0.Coords) (arg2 : Memref sig .tc .vmem S1x128x336 .f32) (harg2 : arg2.IsWhole)
  (arg3 : Memref sig .tc .vmem S1x64x42 .f32) (harg3 : arg3.IsWhole) (arg4 : Memref sig .tc .vmem S1x42x1024 .f32)
  (harg4 : arg4.IsWhole) (arg5 : Memref sig .tc .vmem S128x16 .f32) (harg5 : arg5.IsWhole)
  (arg6 : Memref sig .tc .vmem S1312x128 .f32) (harg6 : arg6.IsWhole) (arg7 : Memref sig .tc .vmem S8x128 .f32)
  (harg7 : arg7.IsWhole) (arg8 : Memref sig .tc .vmem S1x3072x128 .f32) (harg8 : arg8.IsWhole)
  (arg9 : Memref sig .tc .vmem S1x64x128 .i32) (harg9 : arg9.IsWhole) (arg10 : Memref sig .tc .vmem S128x128 .f32)
  (harg10 : arg10.IsWhole)
  (x0 : Vec F S1x128x336 .f32) (x1 : Vec F S1x64x42 .f32) (x2 : Vec F S1x42x1024 .f32) (x3 : Vec F S128x16 .f32)
  (x4 : Vec F S1312x128 .f32) (x5 : Vec F S8x128 .f32) (xs0 : Vec F S128x128 .f32)

/-- The value of the load of the block's own rows, as a matrix. -/
def rows : FVec F S64x42 .f32 :=
  Gen.k0_pay39 (View.readAt (Elt F) arg3.view (Rect.unit ![0, 0, 0] S1x64x42.size (by decide)).toLoadRect (harg3.unread x1))

/-- The value of the load of the transposed coordinates, as a matrix. -/
def colsT : FVec F S42x1024 .f32 :=
  Gen.k0_pay40 (View.readAt (Elt F) arg4.view (Rect.unit ![0, 0, 0] S1x42x1024.size (by decide)).toLoadRect (harg4.unread x2))

theorem pieces7_B (hc0 : ¬Gen.cond0_0 i) :
    (Gen.kernelRun0_B c i arg2 harg2 arg3 harg3 arg4 harg4 arg5 harg5 arg6 harg6 arg7 harg7 arg8 harg8 arg9 harg9 arg10 harg10 hc0
      x0 x1 x2 x3 x4 x5 xs0).2.1
    = [⟨Rect.unit ![0, 0, 0] S1x64x128.size (by decide),
        numBlock (picks (Gen.k0_pay47 (rows arg3 harg3 x1) (colsT arg4 harg4 x2)))⟩] := by
  sl_kernel_rfl

theorem pieces7_A (hc0 : Gen.cond0_0 i) :
    (Gen.kernelRun0_A c i arg2 harg2 arg3 harg3 arg4 harg4 arg5 harg5 arg6 harg6 arg7 harg7 arg8 harg8 arg9 harg9 arg10 harg10 hc0
      x0 x1 x2 x3 x4 x5).2.1
    = [⟨Rect.unit ![0, 0, 0] S1x64x128.size (by decide),
        numBlock (picks (Gen.k0_pay47 (rows arg3 harg3 x1) (colsT arg4 harg4 x2)))⟩] := by
  sl_kernel_rfl

end Cert.Edge

end
-- ==== Proof.BodyE.lean ====
/- The feature stage of the kernel body as closed forms: what one grid point writes into its block of edge features, as
   a composition of named steps over the block's neighbour numbers, its own rows, the atom table and the tables it reads. -/
module

public import proofs.«01_k».proof.Proof.Body

@[expose] public section

set_option maxRecDepth 16384

noncomputable section

namespace Cert.Edge

open Idealize.ShloMosaic Idealize.ShloMosaic.TcCoe Cert.KernelIdeal

variable {F : FTy → Type} [FloatOps F] [Named F]

/-! ## The two-part products -/

/-- The leading part of an array: its narrow cast. -/
def hi {s : Shape} (x : FVec F s .f32) : FVec F s .bf16 := truncf .bf16 x Gen.bitsLt_bf16_f32

/-- The trailing part of an array: what its narrow cast left out, cast in turn. -/
def lo {s : Shape} (x : FVec F s .f32) : FVec F s .bf16 :=
  truncf .bf16 (subf x (extf .f32 (hi x) Gen.bitsLt_bf16_f32)) Gen.bitsLt_bf16_f32

/-- A table of zeros and ones times an array in two parts. -/
def selMul {sl sr so : Shape} (D : DotDims sl sr so) (a : FVec F sl .bf16) (x : FVec F sr .f32) : FVec F so .f32 :=
  addf (matmul D none a (hi x) (constant so .f32 0x00000000#32)) (matmul D none a (lo x) (constant so .f32 0x00000000#32))

/-- An array in two parts times a table of zeros and ones. -/
def mulTab {sl sr so : Shape} (D : DotDims sl sr so) (x : FVec F sl .f32) (w : FVec F sr .f32) : FVec F so .f32 :=
  addf (matmul D none (hi x) (hi w) (constant so .f32 0x00000000#32))
    (matmul D none (lo x) (hi w) (constant so .f32 0x00000000#32))

/-- The product of two arrays, each in two parts, without the product of the trailing parts. -/
def dot3 {sl sr so : Shape} (D : DotDims sl sr so) (x : FVec F sl .f32) (w : FVec F sr .f32) : FVec F so .f32 :=
  addf (matmul D none (hi x) (hi w) (constant so .f32 0x00000000#32))
    (addf (matmul D none (hi x) (lo w) (constant so .f32 0x00000000#32))
      (matmul D none (lo x) (hi w) (constant so .f32 0x00000000#32)))

/-! ## Words -/

/-- The quotient by `n`, rounded down. -/
def fdiv {s : Shape} (x : IVec s 32) (n : BitVec 32) : IVec s 32 :=
  select (andi (cmpi .ne (subi (extui 32 (cmpi .sgt x (broadcast s 0#32)) Gen.natLt_1_32)
      (extui 32 (cmpi .slt x (broadcast s 0#32)) Gen.natLt_1_32))
      (broadcast s (Scalar.subi (Scalar.extui (Scalar.cmpi .sgt n 0#32)) (Scalar.extui (Scalar.cmpi .slt n 0#32)))))
    (cmpi .ne (remsi x (broadcast s n)) (broadcast s 0#32)))
    (subi (divsi x (broadcast s n)) (broadcast s 1#32)) (divsi x (broadcast s n))

/-- The lane number at each place of the block's 3072 × 128 arrays. -/
def lane : IVec S3072x128 32 := iota .tc S3072x128 32 [1] Gen.iota_S3072x128_d1_w32

/-- The edge number of each of the block's 3072 rows. -/
def edge : IVec S3072x1 32 := iota .tc S3072x1 32 [0] Gen.iota_S3072x1_d0_w32

/-- The residue (of the block's 64) each edge starts at. -/
def res : IVec S3072x1 32 := fdiv edge 48#32

/-- The row of zeros and a single one, at the lane `x` names. -/
def hotF (x : IVec S3072x1 32) : FVec F S3072x128 .f32 :=
  sitofp .f32 (extui 32 (cmpi .eq lane (broadcastTo S3072x128 x Gen.broadcasts_S3072x1_S3072x128)) Gen.natLt_1_32)

/-- `hotF` in the narrow format. -/
def hot (x : IVec S3072x1 32) : FVec F S3072x128 .bf16 := truncf .bf16 (hotF (F := F) x) Gen.bitsLt_bf16_f32

/-- The block's neighbour numbers as floats, in the corner of a square of zeros. -/
def padPicks (p : IVec S64x48 32) : FVec F S128x128 .f32 :=
  concatenate S128x128 0
    [⟨S64x128, (concatenate S64x128 1 [⟨S64x48, (sitofp .f32 p : FVec F S64x48 .f32)⟩,
        ⟨S64x80, broadcast S64x80 (Scalar.ofBits .f32 0x00000000#32 : F .f32)⟩] Gen.concatenates_S64x48_S64x80_S64x128_d1)⟩,
     ⟨S64x128, broadcast S64x128 (Scalar.ofBits .f32 0x00000000#32 : F .f32)⟩] Gen.concatenates_S64x128_S64x128_S128x128_d0

/-- The neighbour number of each edge. -/
def nbr (p : IVec S64x48 32) : IVec S3072x1 32 :=
  fptosi 32 (addf (shapeCast S3072x1 (multiReduction .add [1] S3072
      (mulf (selMul dot_S3072x128_S128x128_S3072x128_1_0_0_1_n_n (hot (F := F) res) (padPicks p))
        (hotF (subi edge (muli res (broadcast S3072x1 48#32))))) 0x00000000#32 Gen.reduces_S3072x128_S3072 (.inl rfl) rfl)
      Gen.shapeCasts_S3072_S3072x1) (broadcast S3072x1 (Scalar.ofBits .f32 0x3F000000#32)))

/-- The start residue's atoms, each edge's row holding the 75 first coordinates of its 25 atom pairs. -/
def ownAtoms (at5 : FVec F S64x16 .f32) (EA : Vec F S16x128 .f32) : FVec F S3072x128 .f32 :=
  selMul dot_S3072x128_S128x128_S3072x128_1_0_0_1_n_n (hot res)
    (mulTab dot_S128x16_S16x128_S128x128_1_0_0_1_n_n
      (concatenate S128x16 0 [⟨S64x16, at5⟩, ⟨S64x16, broadcast S64x16 (Scalar.ofBits .f32 0x00000000#32 : F .f32)⟩]
        Gen.concatenates_S64x16_S64x16_S128x16_d0)
      (shapeCast S16x128 EA Gen.shapeCasts_S16x128_S16x128))

/-- The end residue's atoms, each edge's row holding the 75 second coordinates of its 25 atom pairs: the table's row of
    eight residues, the residue kept among them, then the coordinates laid out. -/
def nbrAtoms (tab : Vec F S128x128 .f32) (e : IVec S3072x1 32) (EB : Vec F S128x128 .f32) : FVec F S3072x128 .f32 :=
  mulTab dot_S3072x128_S128x128_S3072x128_1_0_0_1_n_n
    (mulf (selMul dot_S3072x128_S128x128_S3072x128_1_0_0_1_n_n (hot (fdiv e 8#32)) tab)
      (sitofp .f32 (extui 32 (cmpi .eq (fdiv lane 16#32)
        (broadcastTo S3072x128 (subi e (muli (broadcast S3072x1 8#32) (fdiv e 8#32))) Gen.broadcasts_S3072x1_S3072x128))
        Gen.natLt_1_32)))
    (shapeCast S128x128 EB Gen.shapeCasts_S128x128_S128x128)

/-- The 25 distances of each edge from its 75 coordinate differences. -/
def pairDist (df : FVec F S3072x128 .f32) (ER : Vec F S128x128 .f32) : FVec F S3072x128 .f32 :=
  sqrt (addf (mulTab dot_S3072x128_S128x128_S3072x128_1_0_0_1_n_n (mulf df df)
    (shapeCast S128x128 ER Gen.shapeCasts_S128x128_S128x128)) (broadcast S3072x128 (Scalar.ofBits .f32 0x358637BD#32)))

/-- The clipped offset of each edge along the chain, `v` being the block's first residue. -/
def offs (v : BitVec 32) (e : IVec S3072x1 32) : IVec S3072x1 32 :=
  minsi (broadcast S3072x1 64#32) (maxsi (broadcast S3072x1 0#32)
    (addi (subi (addi (broadcast S3072x1 v) res) e) (broadcast S3072x1 32#32)))

/-- The positional part of the features. -/
def posPart (o : IVec S3072x1 32) (w16 : Vec F S16x128 .f32) (wpos : Vec F S128x16 .f32) (bpos : Vec F S1x16 .f32) :
    FVec F S3072x128 .f32 :=
  addf (selMul dot_S3072x128_S128x128_S3072x128_1_0_0_1_n_n (hot o)
      (dot3 dot_S128x16_S16x128_S128x128_1_0_0_1_n_n (shapeCast S128x16 wpos Gen.shapeCasts_S128x16_S128x16)
        (shapeCast S16x128 w16 Gen.shapeCasts_S16x128_S16x128)))
    (broadcastTo S3072x128 (dot3 dot_S1x16_S16x128_S1x128_1_0_0_1_n_n (shapeCast S1x16 bpos Gen.shapeCasts_S1x16_S1x16)
      (shapeCast S16x128 w16 Gen.shapeCasts_S16x128_S16x128)) Gen.broadcasts_S1x128_S3072x128)

/-- One group of eight distances (sixteen in the last row count) through the radial functions. -/
def rbf (dist : FVec F S3072x128 .f32) (mu : Vec F S1x128 .f32) (EG : Vec F S128x128 .f32) : FVec F S3072x128 .f32 :=
  let t : FVec F S3072x128 .f32 :=
    subf (mulf (mulTab dot_S3072x128_S128x128_S3072x128_1_0_0_1_n_n dist (shapeCast S128x128 EG Gen.shapeCasts_S128x128_S128x128))
      (broadcast S3072x128 (Named.named κ "inv_sigma" 0x3F4CCCCD#32)))
      (broadcastTo S3072x128 (mulf (shapeCast S1x128 mu Gen.shapeCasts_S1x128_S1x128)
        (broadcast S1x128 (Named.named κ "inv_sigma" 0x3F4CCCCD#32))) Gen.broadcasts_S1x128_S3072x128)
  exp (subf (broadcast S3072x128 (Scalar.ofBits .f32 0x00000000#32)) (mulf t t))

/-- One group's share of the features added to the running sum. -/
def addGroup (acc dist : FVec F S3072x128 .f32) (mu : Vec F S1x128 .f32) (EG WG : Vec F S128x128 .f32) :
    FVec F S3072x128 .f32 :=
  addf acc (dot3 dot_S3072x128_S128x128_S3072x128_1_0_0_1_n_n (rbf dist mu EG)
    (shapeCast S128x128 WG Gen.shapeCasts_S128x128_S128x128))

/-- The mean of each row. -/
def rowMean (h : FVec F S3072x128 .f32) : FVec F S3072x1 .f32 :=
  divf (shapeCast S3072x1 (multiReduction .add [1] S3072 h 0x00000000#32 Gen.reduces_S3072x128_S3072 (.inl rfl) rfl)
    Gen.shapeCasts_S3072_S3072x1) (broadcast S3072x1 (Scalar.ofBits .f32 0x43000000#32))

/-- The normalised rows, scaled and shifted. -/
def norm (h : FVec F S3072x128 .f32) (gamma beta : Vec F S1x128 .f32) : FVec F S1x3072x128 .f32 :=
  let d : FVec F S3072x128 .f32 := subf h (broadcastTo S3072x128 (rowMean h) Gen.broadcasts_S3072x1_S3072x128)
  shapeCast S1x3072x128 (addf (divf (mulf (broadcastTo S3072x128 (shapeCast S1x128 gamma Gen.shapeCasts_S1x128_S1x128)
      Gen.broadcasts_S1x128_S3072x128) d)
      (broadcastTo S3072x128 (sqrt (addf (rowMean (mulf d d)) (broadcast S3072x1 (Scalar.ofBits .f32 0x3727C5AC#32))))
        Gen.broadcasts_S3072x1_S3072x128))
    (broadcastTo S3072x128 (shapeCast S1x128 beta Gen.shapeCasts_S1x128_S1x128) Gen.broadcasts_S1x128_S3072x128))
    Gen.shapeCasts_S3072x128_S1x3072x128

/-- The five atoms of the block's own residues. -/
def at5 (v0 : Vec F S1x64x42 .f32) : FVec F S64x16 .f32 :=
  Gen.k0_pay46 (Gen.k0_pay39 v0) (Gen.k0_pay42 v0) (Gen.k0_pay44 v0) (Gen.k0_pay45 v0)

/-- The block of edge features before the normalisation. -/
def feats (v : BitVec 32) (v0 : Vec F S1x64x42 .f32) (p : IVec S64x48 32) (tab EB ER EG0 EG1 EG2 EG3 WG0 WG1 WG2 WG3 : Vec F S128x128 .f32)
    (EA w16 : Vec F S16x128 .f32) (wpos : Vec F S128x16 .f32) (bpos : Vec F S1x16 .f32) (mu : Vec F S1x128 .f32) :
    FVec F S3072x128 .f32 :=
  let e := nbr (F := F) p
  let dist := pairDist (subf (ownAtoms (at5 v0) EA) (nbrAtoms tab e EB)) ER
  addGroup (addGroup (addGroup (addGroup (posPart (offs v e) w16 wpos bpos) dist mu EG0 WG0) dist mu EG1 WG1)
    dist mu EG2 WG2) dist mu EG3 WG3

variable (c : Dev nD) (i : grid0.Coords) (arg2 : Memref sig .tc .vmem S1x128x336 .f32) (harg2 : arg2.IsWhole)
  (arg3 : Memref sig .tc .vmem S1x64x42 .f32) (harg3 : arg3.IsWhole) (arg4 : Memref sig .tc .vmem S1x42x1024 .f32)
  (harg4 : arg4.IsWhole) (arg5 : Memref sig .tc .vmem S128x16 .f32) (harg5 : arg5.IsWhole)
  (arg6 : Memref sig .tc .vmem S1312x128 .f32) (harg6 : arg6.IsWhole) (arg7 : Memref sig .tc .vmem S8x128 .f32)
  (harg7 : arg7.IsWhole) (arg8 : Memref sig .tc .vmem S1x3072x128 .f32) (harg8 : arg8.IsWhole)
  (arg9 : Memref sig .tc .vmem S1x64x128 .i32) (harg9 : arg9.IsWhole) (arg10 : Memref sig .tc .vmem S128x128 .f32)
  (harg10 : arg10.IsWhole)
  (x0 : Vec F S1x128x336 .f32) (x1 : Vec F S1x64x42 .f32) (x2 : Vec F S1x42x1024 .f32) (x3 : Vec F S128x16 .f32)
  (x4 : Vec F S1312x128 .f32) (x5 : Vec F S8x128 .f32) (xs0 : Vec F S128x128 .f32)

/-- 128 rows of the tables, from row `k`. -/
def tabRows (k : ℕ) (h : ∀ a, (![k, 0] : Fin 2 → Nat) a + S128x128.size a ≤ S1312x128.size a) : Vec F S128x128 .f32 :=
  View.readAt (Elt F) arg6.view (Rect.unit (s := S1312x128) ![k, 0] S128x128.size h).toLoadRect (harg6.unread x4)

/-- 16 rows of the tables, from row `k`. -/
def tabRows16 (k : ℕ) (h : ∀ a, (![k, 0] : Fin 2 → Nat) a + S16x128.size a ≤ S1312x128.size a) : Vec F S16x128 .f32 :=
  View.readAt (Elt F) arg6.view (Rect.unit (s := S1312x128) ![k, 0] S16x128.size h).toLoadRect (harg6.unread x4)

/-- Row `k` of the parameters. -/
def parRow (k : ℕ) (h : ∀ a, (![k, 0] : Fin 2 → Nat) a + S1x128.size a ≤ S8x128.size a) : Vec F S1x128 .f32 :=
  View.readAt (Elt F) arg7.view (Rect.unit (s := S8x128) ![k, 0] S1x128.size h).toLoadRect (harg7.unread x5)

/-- The block of edge features, `tab` being the atom table. -/
def featBlock (tab : Vec F S128x128 .f32) : FVec F S1x3072x128 .f32 :=
  norm (feats (Scalar.muli (BitVec.ofNat 32 (i 1).val) 64#32)
      (View.readAt (Elt F) arg3.view (Rect.unit ![0, 0, 0] S1x64x42.size (by decide)).toLoadRect (harg3.unread x1))
      (picks (Gen.k0_pay47 (rows arg3 harg3 x1) (colsT arg4 harg4 x2))) tab
      (tabRows arg6 harg6 x4 128 (by decide)) (tabRows arg6 harg6 x4 0 (by decide))
      (tabRows arg6 harg6 x4 256 (by decide)) (tabRows arg6 harg6 x4 384 (by decide))
      (tabRows arg6 harg6 x4 512 (by decide)) (tabRows arg6 harg6 x4 640 (by decide))
      (tabRows arg6 harg6 x4 784 (by decide)) (tabRows arg6 harg6 x4 912 (by decide))
      (tabRows arg6 harg6 x4 1040 (by decide)) (tabRows arg6 harg6 x4 1168 (by decide))
      (tabRows16 arg6 harg6 x4 768 (by decide)) (tabRows16 arg6 harg6 x4 1296 (by decide))
      (View.readAt (Elt F) arg5.view (Rect.unit (s := S128x16) ![0, 0] S128x16.size (by decide)).toLoadRect (harg5.unread x3))
      (View.readAt (Elt F) arg7.view (Rect.unit (s := S8x128) ![2, 0] S1x16.size (by decide)).toLoadRect (harg7.unread x5))
      (parRow arg7 harg7 x5 4 (by decide)))
    (parRow arg7 harg7 x5 0 (by decide)) (parRow arg7 harg7 x5 1 (by decide))

theorem pieces6_B (hc0 : ¬Gen.cond0_0 i) :
    (Gen.kernelRun0_B c i arg2 harg2 arg3 harg3 arg4 harg4 arg5 harg5 arg6 harg6 arg7 harg7 arg8 harg8 arg9 harg9 arg10 harg10 hc0
      x0 x1 x2 x3 x4 x5 xs0).1
    = [⟨Rect.unit ![0, 0, 0] S1x3072x128.size (by decide),
        featBlock i arg3 harg3 arg4 harg4 arg5 harg5 arg6 harg6 arg7 harg7 x1 x2 x3 x4 x5
          (View.readAt (Elt F) arg10.view (Rect.unit ![0, 0] S128x128.size (by decide)).toLoadRect (harg10.unread xs0))⟩] := by
  sl_kernel_rfl

end Cert.Edge

end
-- ==== Proof.BodyT.lean ====
/- The atom table of the kernel body: what a point that opens a batch element writes into the table the other points
   read, and the edge-feature block of such a point. -/
module

public import proofs.«01_k».proof.Proof.BodyE

@[expose] public section

set_option maxRecDepth 16384

noncomputable section

namespace Cert.Edge

open Idealize.ShloMosaic Idealize.ShloMosaic.TcCoe Cert.KernelIdeal

variable {F : FTy → Type} [FloatOps F] [Named F]

/-- Component `k` of a 128 × 3 array, as a column. -/
def comp0 (x : FVec F S128x3 .f32) : FVec F S128x1 .f32 := extractStridedSlice S128x1 ![0, 0] x Gen.slices_S128x3_o0_0_S128x1
@[inherit_doc comp0]
def comp1 (x : FVec F S128x3 .f32) : FVec F S128x1 .f32 := extractStridedSlice S128x1 ![0, 1] x Gen.slices_S128x3_o0_1_S128x1
@[inherit_doc comp0]
def comp2 (x : FVec F S128x3 .f32) : FVec F S128x1 .f32 := extractStridedSlice S128x1 ![0, 2] x Gen.slices_S128x3_o0_2_S128x1

/-- The cross products of the rows of two 128 × 3 arrays. -/
def cross (a b : FVec F S128x3 .f32) : FVec F S128x3 .f32 :=
  concatenate S128x3 1
    [⟨S128x1, (subf (mulf (comp1 a) (comp2 b)) (mulf (comp2 a) (comp1 b)) : FVec F S128x1 .f32)⟩,
     ⟨S128x1, (subf (mulf (comp2 a) (comp0 b)) (mulf (comp0 a) (comp2 b)) : FVec F S128x1 .f32)⟩,
     ⟨S128x1, (subf (mulf (comp0 a) (comp1 b)) (mulf (comp1 a) (comp0 b)) : FVec F S128x1 .f32)⟩]
    Gen.concatenates_S128x1_S128x1_S128x1_S128x3_d1

/-- One residue of each of 128 rows: its four atoms, the fifth built from the first three, and one zero. -/
def fiveAtoms (x : FVec F S128x42 .f32) : FVec F S128x16 .f32 :=
  let b : FVec F S128x3 .f32 := extractStridedSlice S128x3 ![0, 3] x Gen.slices_S128x42_o0_3_S128x3
  let p : FVec F S128x3 .f32 := subf (extractStridedSlice S128x3 ![0, 0] x Gen.slices_S128x42_o0_0_S128x3) b
  let q : FVec F S128x3 .f32 := subf (extractStridedSlice S128x3 ![0, 6] x Gen.slices_S128x42_o0_6_S128x3) b
  concatenate S128x16 1
    [⟨S128x12, extractStridedSlice S128x12 ![0, 0] x Gen.slices_S128x42_o0_0_S128x12⟩,
     ⟨S128x3, (addf (addf (addf (mulf (broadcast S128x3 (Scalar.ofBits .f32 0x3F152E13#32)) (cross p q))
        (mulf (broadcast S128x3 (Scalar.ofBits .f32 0xBF116A4D#32)) p))
        (mulf (broadcast S128x3 (Scalar.ofBits .f32 0xBF0A69A8#32)) q)) b : FVec F S128x3 .f32)⟩,
     ⟨S128x1, broadcast S128x1 (Scalar.ofBits .f32 0x00000000#32 : F .f32)⟩]
    Gen.concatenates_S128x12_S128x3_S128x1_S128x16_d1

/-- The table: 128 rows of eight residues each, sixteen places per residue. -/
def atomTab (v0 : Vec F S1x128x336 .f32) : Vec F S128x128 .f32 :=
  let x : FVec F S128x336 .f32 := shapeCast S128x336 v0 Gen.shapeCasts_S1x128x336_S128x336
  shapeCast S128x128 (concatenate S128x128 1
    [⟨S128x16, fiveAtoms (extractStridedSlice S128x42 ![0, 0] x Gen.slices_S128x336_o0_0_S128x42)⟩,
     ⟨S128x16, fiveAtoms (extractStridedSlice S128x42 ![0, 42] x Gen.slices_S128x336_o0_42_S128x42)⟩,
     ⟨S128x16, fiveAtoms (extractStridedSlice S128x42 ![0, 84] x Gen.slices_S128x336_o0_84_S128x42)⟩,
     ⟨S128x16, fiveAtoms (extractStridedSlice S128x42 ![0, 126] x Gen.slices_S128x336_o0_126_S128x42)⟩,
     ⟨S128x16, fiveAtoms (extractStridedSlice S128x42 ![0, 168] x Gen.slices_S128x336_o0_168_S128x42)⟩,
     ⟨S128x16, fiveAtoms (extractStridedSlice S128x42 ![0, 210] x Gen.slices_S128x336_o0_210_S128x42)⟩,
     ⟨S128x16, fiveAtoms (extractStridedSlice S128x42 ![0, 252] x Gen.slices_S128x336_o0_252_S128x42)⟩,
     ⟨S128x16, fiveAtoms (extractStridedSlice S128x42 ![0, 294] x Gen.slices_S128x336_o0_294_S128x42)⟩]
    Gen.concatenates_S128x16_S128x16_S128x16_S128x16_S128x16_S128x16_S128x16_S128x16_S128x128_d1)
    Gen.shapeCasts_S128x128_S128x128

variable (c : Dev nD) (i : grid0.Coords) (arg2 : Memref sig .tc .vmem S1x128x336 .f32) (harg2 : arg2.IsWhole)
  (arg3 : Memref sig .tc .vmem S1x64x42 .f32) (harg3 : arg3.IsWhole) (arg4 : Memref sig .tc .vmem S1x42x1024 .f32)
  (harg4 : arg4.IsWhole) (arg5 : Memref sig .tc .vmem S128x16 .f32) (harg5 : arg5.IsWhole)
  (arg6 : Memref sig .tc .vmem S1312x128 .f32) (harg6 : arg6.IsWhole) (arg7 : Memref sig .tc .vmem S8x128 .f32)
  (harg7 : arg7.IsWhole) (arg8 : Memref sig .tc .vmem S1x3072x128 .f32) (harg8 : arg8.IsWhole)
  (arg9 : Memref sig .tc .vmem S1x64x128 .i32) (harg9 : arg9.IsWhole) (arg10 : Memref sig .tc .vmem S128x128 .f32)
  (harg10 : arg10.IsWhole)
  (x0 : Vec F S1x128x336 .f32) (x1 : Vec F S1x64x42 .f32) (x2 : Vec F S1x42x1024 .f32) (x3 : Vec F S128x16 .f32)
  (x4 : Vec F S1312x128 .f32) (x5 : Vec F S8x128 .f32)

/-- What the table is written with: one piece, the whole of it. -/
def tabPieces : List (View.Piece (Elt F) S128x128 .f32) :=
  [⟨Rect.unit (s := S128x128) ![0, 0] S128x128.size (by decide),
    atomTab (View.readAt (Elt F) arg2.view (Rect.unit (s := S1x128x336) ![0, 0, 0] S1x128x336.size (by decide)).toLoadRect
      (harg2.unread x0))⟩]

theorem piecesT_A (hc0 : Gen.cond0_0 i) :
    (Gen.kernelRun0_A c i arg2 harg2 arg3 harg3 arg4 harg4 arg5 harg5 arg6 harg6 arg7 harg7 arg8 harg8 arg9 harg9 arg10 harg10 hc0
      x0 x1 x2 x3 x4 x5).2.2.1 = tabPieces arg2 harg2 x0 := by
  sl_kernel_rfl

theorem pieces6_A (hc0 : Gen.cond0_0 i) :
    (Gen.kernelRun0_A c i arg2 harg2 arg3 harg3 arg4 harg4 arg5 harg5 arg6 harg6 arg7 harg7 arg8 harg8 arg9 harg9 arg10 harg10 hc0
      x0 x1 x2 x3 x4 x5).1
    = [⟨Rect.unit ![0, 0, 0] S1x3072x128.size (by decide),
        featBlock i arg3 harg3 arg4 harg4 arg5 harg5 arg6 harg6 arg7 harg7 x1 x2 x3 x4 x5
          (arg10.view.readCov (tabPieces arg2 harg2 x0) (Rect.unit (s := S128x128) ![0, 0] S128x128.size (by decide)).toLoadRect)⟩] := by
  sl_kernel_rfl

end Cert.Edge

end
-- ==== Proof.Run.lean ====
/- What each grid point leaves in the two output blocks and in the atom table, and the two output arrays after the run,
   each element given by the block of the point that writes it. -/
module

public import proofs.«01_k».proof.Proof.BodyT
public import Idealize.ShloMosaic.Lib.Pipeline.Value
public import Idealize.ShloMosaic.Lib.Pipeline.ValueKit
public import Idealize.ShloMosaic.Lib.WholeRead
public import Idealize.ShloMosaic.Lib.VecWindow
public import Idealize.ShloMosaic.Lib.Pointwise

@[expose] public section

set_option maxRecDepth 16384

noncomputable section

namespace Cert.Edge

open Idealize.ShloMosaic Idealize.ShloMosaic.TcCoe Cert.KernelIdeal Cert.KernelIdeal.Gen Idealize.SL.Sem
open Idealize.ShloMosaic.Pipeline (Dat)

variable {F : FTy → Type} [FloatOps F] [Named F]

/-! ## The blocks as functions of the arrays a point reads -/

/-- The neighbour numbers of a block from its own rows and the transposed coordinates. -/
def nums (x1 : Vec F S1x64x42 .f32) (x2 : Vec F S1x42x1024 .f32) : IVec S64x48 32 :=
  picks (Gen.k0_pay47 (Gen.k0_pay39 x1) (Gen.k0_pay40 x2))

/-- The part of an array that a unit-stride rectangle covers. -/
def part {s : Shape} {e : EltTy} (off size : Fin s.rank → ℕ) (h : ∀ a, off a + size a ≤ s.size a) (X : Vec F s e) :
    Vec F ⟨s.rank, size⟩ e :=
  fun x => X ((Rect.unit (s := s) off size h).toLoadRect.idx x)

/-- The block of edge features of one point from the arrays it reads and the atom table. -/
def featOf (v : BitVec 32) (x1 : Vec F S1x64x42 .f32) (x2 : Vec F S1x42x1024 .f32) (x3 : Vec F S128x16 .f32)
    (x4 : Vec F S1312x128 .f32) (x5 : Vec F S8x128 .f32) (tab : Vec F S128x128 .f32) : FVec F S1x3072x128 .f32 :=
  norm (feats v x1 (nums x1 x2) tab
      (part (s := S1312x128) ![128, 0] S128x128.size (by decide) x4) (part (s := S1312x128) ![0, 0] S128x128.size (by decide) x4)
      (part (s := S1312x128) ![256, 0] S128x128.size (by decide) x4) (part (s := S1312x128) ![384, 0] S128x128.size (by decide) x4)
      (part (s := S1312x128) ![512, 0] S128x128.size (by decide) x4) (part (s := S1312x128) ![640, 0] S128x128.size (by decide) x4)
      (part (s := S1312x128) ![784, 0] S128x128.size (by decide) x4) (part (s := S1312x128) ![912, 0] S128x128.size (by decide) x4)
      (part (s := S1312x128) ![1040, 0] S128x128.size (by decide) x4) (part (s := S1312x128) ![1168, 0] S128x128.size (by decide) x4)
      (part (s := S1312x128) ![768, 0] S16x128.size (by decide) x4) (part (s := S1312x128) ![1296, 0] S16x128.size (by decide) x4)
      x3 (part (s := S8x128) ![2, 0] S1x16.size (by decide) x5) (part (s := S8x128) ![4, 0] S1x128.size (by decide) x5))
    (part (s := S8x128) ![0, 0] S1x128.size (by decide) x5) (part (s := S8x128) ![1, 0] S1x128.size (by decide) x5)

/-- A load of part of a whole buffer is that part of its contents. -/
theorem load_part {s : Shape} {e : EltTy} (a : Memref sig .tc .vmem s e) (h : a.IsWhole) (X : Vec F s e)
    (off size : Fin s.rank → ℕ) (hb : ∀ k, off k + size k ≤ s.size k) :
    View.readAt (Elt F) a.view (Rect.unit (s := s) off size hb).toLoadRect (h.unread X) = part off size hb X := by
  funext x
  exact h.readAt_unread X _ x

/-- The whole part is the array. -/
theorem part_whole {s : Shape} {e : EltTy} (off : Fin s.rank → ℕ) (h0 : ∀ a, off a = 0) (hb : ∀ k, off k + s.size k ≤ s.size k)
    (X : Vec F s e) : part off s.size hb X = X := by
  funext x
  unfold part
  congr 1
  funext a
  apply Fin.ext
  show off a + 1 * (x a).val = (x a).val
  rw [h0]; omega

theorem zero2 : ∀ a : Fin 2, (![0, 0] : Fin 2 → ℕ) a = 0 := by decide
theorem zero3 : ∀ a : Fin 3, (![0, 0, 0] : Fin 3 → ℕ) a = 0 := by decide

section
variable (i : grid0.Coords)
  (arg3 : Memref sig .tc .vmem S1x64x42 .f32) (harg3 : arg3.IsWhole) (arg4 : Memref sig .tc .vmem S1x42x1024 .f32)
  (harg4 : arg4.IsWhole) (arg5 : Memref sig .tc .vmem S128x16 .f32) (harg5 : arg5.IsWhole)
  (arg6 : Memref sig .tc .vmem S1312x128 .f32) (harg6 : arg6.IsWhole) (arg7 : Memref sig .tc .vmem S8x128 .f32)
  (harg7 : arg7.IsWhole)
  (x1 : Vec F S1x64x42 .f32) (x2 : Vec F S1x42x1024 .f32) (x3 : Vec F S128x16 .f32)
  (x4 : Vec F S1312x128 .f32) (x5 : Vec F S8x128 .f32) (tab : Vec F S128x128 .f32)

/-- The neighbour numbers do not depend on the buffers the arrays stand in. -/
theorem nums_eq : picks (Gen.k0_pay47 (rows arg3 harg3 x1) (colsT arg4 harg4 x2)) = nums x1 x2 := by
  unfold rows colsT nums
  rw [load_part, load_part, part_whole (s := S1x64x42) _ zero3, part_whole (s := S1x42x1024) _ zero3]

/-- The feature block does not depend on the buffers the arrays stand in. -/
theorem featBlock_eq : featBlock i arg3 harg3 arg4 harg4 arg5 harg5 arg6 harg6 arg7 harg7 x1 x2 x3 x4 x5 tab
    = featOf (Scalar.muli (BitVec.ofNat 32 (i 1).val) 64#32) x1 x2 x3 x4 x5 tab := by
  unfold featBlock featOf tabRows tabRows16 parRow
  rw [nums_eq]
  simp only [load_part]
  rw [part_whole (s := S1x64x42) _ zero3, part_whole (s := S128x16) _ zero2]
end

variable (m : (ℓ : Loc nD τ sig) → Buf (Elt F) ℓ) (ρ : Dev nD → PrngReg)

/-! ## What each point leaves -/

/-- The point of batch element `b` and block `q` of its 16. -/
def pt (b : Fin 2) (q : Fin 16) : Fin cfg0.N := ⟨16 * b.val + q.val, by have : cfg0.N = 32 := N_0; omega⟩

/-- The atom table of the batch element of point `t`: it is filled at the element's first point. -/
def tabAt (c : Dev nD) (b : Fin 2) : Vec F S128x128 .f32 := atomTab (iblk m c 0 (pt b 0))

/-- What a point that opens a batch element leaves in the table. -/
theorem table_A (c : Dev nD) (t : Fin cfg0.N) (h0 : t.val % 16 = 0) :
    (outsAt0 m c t.val t.isLt).2.2 = atomTab (iblk m c 0 t) := by
  rw [outsAt0_A m c t h0]
  dsimp only
  unfold sout0_A_0
  rw [piecesT_A]
  unfold tabPieces
  rw [View.read_writes_full, load_part, part_whole (s := S1x128x336) _ zero3]

/-- Any other point leaves the table as it was. -/
theorem table_B (c : Dev nD) (t : Fin cfg0.N) (h0 : ¬t.val % 16 = 0) :
    (outsAt0 m c t.val t.isLt).2.2 = (outsAt0 m c (t.val - 1) (by omega)).2.2 := by
  rw [outsAt0_B m c t h0]
  dsimp only
  unfold sout0_B_0
  rfl

/-- So after each point the table is its batch element's. -/
theorem table (c : Dev nD) (b : Fin 2) (q : Fin 16) :
    (outsAt0 m c (pt b q).val (pt b q).isLt).2.2 = tabAt m c b := by
  obtain ⟨n, hn⟩ := q
  induction n with
  | zero => exact table_A m c _ (by show (16 * b.val + 0) % 16 = 0; omega)
  | succ n ih =>
    rw [table_B m c _ (by show ¬(16 * b.val + (n + 1)) % 16 = 0; omega)]
    exact ih (by omega)

/-- Each point's block of neighbour numbers. -/
theorem out7 (c : Dev nD) (t : Fin cfg0.N) :
    (outsAt0 m c t.val t.isLt).2.1 = numBlock (nums (iblk m c 1 t) (iblk m c 2 t)) := by
  by_cases h0 : t.val % 16 = 0
  · rw [outsAt0_A m c t h0]
    dsimp only
    unfold out0_A_7
    rw [pieces7_A, View.read_writes_full, nums_eq]
  · rw [outsAt0_B m c t h0]
    dsimp only
    unfold out0_B_7
    rw [pieces7_B, View.read_writes_full, nums_eq]

/-- The block of features point `t` writes, from its batch element's table. -/
def featAt (c : Dev nD) (b : Fin 2) (q : Fin 16) : FVec F S1x3072x128 .f32 :=
  featOf (Scalar.muli (BitVec.ofNat 32 (grid0.coords (pt b q) 1).val) 64#32) (iblk m c 1 (pt b q)) (iblk m c 2 (pt b q))
    (iblk m c 3 (pt b q)) (iblk m c 4 (pt b q)) (iblk m c 5 (pt b q)) (tabAt m c b)

/-- Each point's block of features. -/
theorem out6 (c : Dev nD) (b : Fin 2) (q : Fin 16) :
    (outsAt0 m c (pt b q).val (pt b q).isLt).1 = featAt m c b q := by
  by_cases h0 : (pt b q).val % 16 = 0
  · rw [outsAt0_A m c (pt b q) h0]
    dsimp only
    unfold out0_A_6
    have hq : q = 0 := by
      have h1 : (16 * b.val + q.val) % 16 = 0 := h0
      apply Fin.ext
      show q.val = 0
      omega
    subst hq
    rw [pieces6_A, View.read_writes_full, featBlock_eq]
    unfold tabPieces
    rw [View.readCov_full, load_part, part_whole (s := S1x128x336) _ zero3]
    rfl
  · rw [outsAt0_B m c (pt b q) h0]
    dsimp only
    unfold out0_B_6
    have hq : (outsAt0 m c ((pt b q).val - 1) (by have := (pt b q).isLt; omega)).2.2 = tabAt m c b := by
      rw [← table_B m c _ h0]; exact table m c b q
    rw [pieces6_B, View.read_writes_full, featBlock_eq, load_part, part_whole (s := S128x128) _ zero2, hq]
    rfl

end Cert.Edge

end
-- ==== Proof.Out.lean ====
/- The two output arrays of the kernel after the run, and the two results of the whole program: each element is an
   element of the block that the point of its batch element and residue writes. -/
module

public import proofs.«01_k».proof.Proof.Run

@[expose] public section

set_option maxRecDepth 16384

noncomputable section

namespace Cert.Edge

open Idealize.ShloMosaic Idealize.ShloMosaic.TcCoe Cert.KernelIdeal Cert.KernelIdeal.Gen Idealize.SL.Sem
open Idealize.ShloMosaic.Pipeline (Dat)

variable {F : FTy → Type} [FloatOps F] [Named F]
variable (m : (ℓ : Loc nD τ sig) → Buf (Elt F) ℓ) (ρ : Dev nD → PrngReg)

/-- The array of neighbour numbers: row `l` of batch element `b` is row `l % 64` of the block of `l / 64`. -/
def G7 (c : Dev nD) : IVec S2x1024x128 32 := fun i =>
  let b : Fin 2 := i 0
  let q : Fin 16 := ⟨(i 1).val / 64, by have : (i 1).val < 1024 := (i 1).isLt; omega⟩
  numBlock (nums (iblk m c 1 (pt b q)) (iblk m c 2 (pt b q)))
    (ix3 (0 : Fin 1) ⟨(i 1).val % 64, Nat.mod_lt _ (by norm_num)⟩ (i 2) : S1x64x128.Idx)

/-- The array of features: row `j` of batch element `b` is row `j % 3072` of the block of `j / 3072`. -/
def G6 (c : Dev nD) : FVec F S2x49152x128 .f32 := fun i =>
  let b : Fin 2 := i 0
  let q : Fin 16 := ⟨(i 1).val / 3072, by have : (i 1).val < 49152 := (i 1).isLt; omega⟩
  featAt m c b q (ix3 (0 : Fin 1) ⟨(i 1).val % 3072, Nat.mod_lt _ (by norm_num)⟩ (i 2) : S1x3072x128.Idx)

theorem idx7 : ∀ t : Fin cfg0.N, win0_7.index t = ![t.val / 16, t.val % 16, 0] :=
  (by decide +kernel : ∀ t : Fin grid0.N, win0_7.index t = ![t.val / 16, t.val % 16, 0])

theorem idx6 : ∀ t : Fin cfg0.N, win0_6.index t = ![t.val / 16, t.val % 16, 0] :=
  (by decide +kernel : ∀ t : Fin grid0.N, win0_6.index t = ![t.val / 16, t.val % 16, 0])

/-- Every point is the point of its batch element and block. -/
theorem pt_eq (t : Fin cfg0.N) (b : Fin 2) (q : Fin 16) (hb : b.val = t.val / 16) (hq : q.val = t.val % 16) : pt b q = t := by
  apply Fin.ext
  show 16 * b.val + q.val = t.val
  omega

theorem arr7 (c : Dev nD) : (dats m 0 c).arrAt 7 cfg0.N = G7 m c := by
  refine (dats m 0 c).arrAt_eq_of_covers 7 _ (by decide +kernel) fun t hf y => ?_
  have hN : t.val < 32 := lt_of_lt_of_eq t.isLt N_0
  have h1 : (y 1).val < 64 := (y 1).isLt
  have h0 : (y 0).val < 1 := (y 0).isLt
  blk_simp
  rw [after0_7, out7]
  set j := (win0_7.blk t).view.emb y with hj
  have e0 : (j 0).val = t.val / 16 := by
    rw [hj]; blk_simp [idx7]
  have e1 : (j 1).val = t.val % 16 * 64 + (y 1).val := by
    rw [hj]; blk_simp [idx7]
  have e2 : (j 2).val = (y 2).val := by
    rw [hj]; blk_simp [idx7]
  unfold G7
  dsimp only
  rw [pt_eq t _ _ e0 (by show (j 1).val / 64 = _; omega)]
  congr 1
  funext a
  apply Fin.ext
  fin_cases a
  · show (y 0).val = 0; omega
  · show (y 1).val = (j 1).val % 64; omega
  · exact e2.symm

theorem arr6 (c : Dev nD) : (dats m 0 c).arrAt 6 cfg0.N = G6 m c := by
  refine (dats m 0 c).arrAt_eq_of_covers 6 _ (by decide +kernel) fun t hf y => ?_
  have hN : t.val < 32 := lt_of_lt_of_eq t.isLt N_0
  have h1 : (y 1).val < 3072 := (y 1).isLt
  have h0 : (y 0).val < 1 := (y 0).isLt
  blk_simp
  have ht : pt ⟨t.val / 16, by omega⟩ ⟨t.val % 16, by omega⟩ = t := pt_eq t _ _ rfl rfl
  rw [after0_6]
  have ho := out6 m c ⟨t.val / 16, by omega⟩ ⟨t.val % 16, by omega⟩
  rw [ht] at ho
  rw [ho]
  set j := (win0_6.blk t).view.emb y with hj
  have e0 : (j 0).val = t.val / 16 := by
    rw [hj]; blk_simp [idx6]
  have e1 : (j 1).val = t.val % 16 * 3072 + (y 1).val := by
    rw [hj]; blk_simp [idx6]
  have e2 : (j 2).val = (y 2).val := by
    rw [hj]; blk_simp [idx6]
  unfold G6
  dsimp only
  have hb : (⟨t.val / 16, by omega⟩ : Fin 2) = j 0 := Fin.ext e0.symm
  have hq : (⟨t.val % 16, by omega⟩ : Fin 16) = ⟨(j 1).val / 3072, by omega⟩ := Fin.ext (by show t.val % 16 = (j 1).val / 3072; omega)
  rw [hb, hq]
  congr 1
  funext a
  apply Fin.ext
  fin_cases a
  · show (y 0).val = 0; omega
  · show (y 1).val = (j 1).val % 3072; omega
  · exact e2.symm

/-- The first result: the features, laid out by residue and neighbour. -/
theorem tail37 (c : Dev nD) : Pipeline.afterTail₀ cfgs (dats m) 0 (V0 m) [hostOps1] c main_v37
    = shapeCast S2x1024x48x128 (G6 m c) shapeCasts_S2x49152x128_S2x1024x48x128 := by
  unfold Pipeline.afterTail₀
  simp only [hostOps1, List.flatten_cons, List.flatten_nil, List.append_nil, List.cons_append, List.nil_append]
  after_results
  have h := Pipeline.withArrays_arr (cfgs 0).spec (by decide) c (V0 m c) (fun w => (dats m 0 c).arrAt w (cfgs 0).N) (6 : Fin 8)
  refine (congrArg (fun x => shapeCast S2x1024x48x128 x shapeCasts_S2x49152x128_S2x1024x48x128) (h.trans (arr6 m c)))

/-- The second result: the first 48 columns of the neighbour numbers. -/
theorem tail38 (c : Dev nD) : Pipeline.afterTail₀ cfgs (dats m) 0 (V0 m) [hostOps1] c main_v38
    = extractStridedSlice S2x1024x48 ![0, 0, 0] (G7 m c) slices_S2x1024x128_S2x1024x48_0_0_0 := by
  unfold Pipeline.afterTail₀
  simp only [hostOps1, List.flatten_cons, List.flatten_nil, List.append_nil, List.cons_append, List.nil_append]
  after_results
  have h := Pipeline.withArrays_arr (cfgs 0).spec (by decide) c (V0 m c) (fun w => (dats m 0 c).arrAt w (cfgs 0).N) (7 : Fin 8)
  refine (congrArg (fun x => extractStridedSlice S2x1024x48 ![0, 0, 0] x slices_S2x1024x128_S2x1024x48_0_0_0) (h.trans (arr7 m c)))

/-- Every run of the kernel program ends with the two results so given and its arguments as they were. -/
theorem kernel_run : θ_run defs (onTc (τ := τ) (main (F := F))) ⟨m, fun _ => 0, ρ⟩ (fun r => ∀ c : Dev nD,
      r.2.mem ((c.tc : Thread nD τ).loc main_v37) = shapeCast S2x1024x48x128 (G6 m c) shapeCasts_S2x49152x128_S2x1024x48x128
      ∧ r.2.mem ((c.tc : Thread nD τ).loc main_v38) = extractStridedSlice S2x1024x48 ![0, 0, 0] (G7 m c) slices_S2x1024x128_S2x1024x48_0_0_0
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
    ⟨((h c).2 main_v37 (Pipeline.mem_restRefs_of main_v37 (by decide) (by decide))).trans (tail37 m c),
     ((h c).2 main_v38 (Pipeline.mem_restRefs_of main_v38 (by decide) (by decide))).trans (tail38 m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c),
     ((h c).2 main_arg3 (Pipeline.mem_restRefs_of main_arg3 (by decide) (by decide))).trans (W_main_arg3 m (dats m) c),
     ((h c).2 main_arg4 (Pipeline.mem_restRefs_of main_arg4 (by decide) (by decide))).trans (W_main_arg4 m (dats m) c),
     ((h c).2 main_arg5 (Pipeline.mem_restRefs_of main_arg5 (by decide) (by decide))).trans (W_main_arg5 m (dats m) c),
     ((h c).2 main_arg6 (Pipeline.mem_restRefs_of main_arg6 (by decide) (by decide))).trans (W_main_arg6 m (dats m) c),
     ((h c).2 main_arg7 (Pipeline.mem_restRefs_of main_arg7 (by decide) (by decide))).trans (W_main_arg7 m (dats m) c),
     ((h c).2 main_arg8 (Pipeline.mem_restRefs_of main_arg8 (by decide) (by decide))).trans (W_main_arg8 m (dats m) c),
     ((h c).2 main_arg9 (Pipeline.mem_restRefs_of main_arg9 (by decide) (by decide))).trans (W_main_arg9 m (dats m) c)⟩)
    (run_main m ρ)

end Cert.Edge

end
-- ==== Proof.Host.lean ====
/- The arrays the kernel reads, as functions of the program's arguments. -/
module

public import proofs.«01_k».proof.Proof.Out
public import Idealize.ShloMosaic.Lib.StableHlo.ReadAt
public import proofs.«01_k».proof.Proof.Gen.ReferenceIdeal.Read

@[expose] public section
set_option maxRecDepth 16384
noncomputable section
namespace Cert.Edge
open Idealize.ShloMosaic Idealize.ShloMosaic.TcCoe Cert.KernelIdeal Cert.KernelIdeal.Gen Idealize.SL.Sem

/-- The start of a placed block or row. -/
def at1 (k : BitVec 32) : IVec S1 32 := broadcastInDim S1 ![] bcast_S_S1 (constantI S_ 32 k)

/-- The table of chain-offset rows: 66 rows, then zeros. -/
def wposTab (w : FVec Ideal S66x16 .f32) : FVec Ideal S128x16 .f32 :=
  Host.scatter scatter_S128x16_S1_S66x16_01_n_0_0 (fun _ b => b)
    (broadcastInDim S128x16 ![] bcast_S_S128x16 (constant (F := Ideal) S_ .f32 0x00000000#32)) (at1 0#32) w

/-- The weights of the radial functions: 400 rows, then zeros. -/
def wgsTab (w : FVec Ideal S416x128 .f32) : FVec Ideal S512x128 .f32 :=
  Host.scatter scatter_S512x128_S1_S16x128_01_n_0_0 (fun _ b => b)
    (Host.scatter scatter_S512x128_S1_S128x128_01_n_0_0 (fun _ b => b)
      (Host.scatter scatter_S512x128_S1_S128x128_01_n_0_0 (fun _ b => b)
        (Host.scatter scatter_S512x128_S1_S128x128_01_n_0_0 (fun _ b => b)
          (broadcastInDim S512x128 ![] bcast_S_S512x128 (constant (F := Ideal) S_ .f32 0x00000000#32)) (at1 0#32)
          (extractStridedSlice S128x128 ![16, 0] w slices_S416x128_S128x128_16_0)) (at1 128#32)
        (extractStridedSlice S128x128 ![144, 0] w slices_S416x128_S128x128_144_0)) (at1 256#32)
      (extractStridedSlice S128x128 ![272, 0] w slices_S416x128_S128x128_272_0)) (at1 384#32)
    (extractStridedSlice S16x128 ![400, 0] w slices_S416x128_S16x128_400_0)

/-- The tables, one above the other. -/
def tables (w : FVec Ideal S416x128 .f32) : FVec Ideal S1312x128 .f32 :=
  concatenate S1312x128 0
    [⟨S128x128, (fun i => FloatOps.ofBits .f32 (lit0 (S128x128.rowMajor i)) : FVec Ideal S128x128 .f32)⟩,
     ⟨S128x128, (fun i => FloatOps.ofBits .f32 (lit1 (S128x128.rowMajor i)) : FVec Ideal S128x128 .f32)⟩,
     ⟨S512x128, (fun i => FloatOps.ofBits .f32 (lit2 (S512x128.rowMajor i)) : FVec Ideal S512x128 .f32)⟩,
     ⟨S16x128, (fun i => FloatOps.ofBits .f32 (lit3 (S16x128.rowMajor i)) : FVec Ideal S16x128 .f32)⟩,
     ⟨S512x128, wgsTab w⟩,
     ⟨S16x128, extractStridedSlice S16x128 ![0, 0] w slices_S416x128_S16x128_0_0⟩]
    concatenates_S128x128_S128x128_S512x128_S16x128_S512x128_S16x128_S1312x128_d0

/-- The first rows of the parameters: the scale, the shift, the positional bias. -/
def parHead (g s : FVec Ideal S128 .f32) (bp : FVec Ideal S16 .f32) : FVec Ideal S8x128 .f32 :=
  Host.scatter scatter_S8x128_S2_S16_0_0_01_0 (fun _ b => b)
    (Host.scatter scatter_S8x128_S1_S128_0_0_0_0 (fun _ b => b)
      (Host.scatter scatter_S8x128_S1_S128_0_0_0_0 (fun _ b => b)
        (broadcastInDim S8x128 ![] bcast_S_S8x128 (constant (F := Ideal) S_ .f32 0x00000000#32)) (at1 0#32) g) (at1 1#32) s)
    (concatenate S2 0 [⟨S1, at1 2#32⟩, ⟨S1, at1 0#32⟩] concatenates_S1_S1_S2_d0) bp

variable (m : (ℓ : Loc nD τ sig) → Buf (Elt Ideal) ℓ) (c : Dev nD)

theorem v4_eq : (V0 m c main_v4 : FVec Ideal S128x16 .f32) = wposTab (m ((c.tc : Thread nD τ).loc main_arg5)) := by
  unfold V0
  simp only [hostOps0, hostOps0_1, hostOps0_2, List.flatten_cons, List.flatten_nil, List.append_nil, List.cons_append, List.nil_append]
  after_results
  rfl

/-- The six tables set one above the other, read where they are put. -/
theorem six_result {f : ((k : Fin 6) → ((![main_cst, main_cst_0, main_cst_1, main_cst_2, main_v32, main_v33] : Fin 6 → Ref sig .tc) k).ty.Contents (Elt Ideal)) → main_v34.ty.Contents (Elt Ideal)}
    (hxs hy) (V : Valuation τ sig (Elt Ideal)) :
    (StableHlo.nary (τ := τ) ![main_cst, main_cst_0, main_cst_1, main_cst_2, main_v32, main_v33] main_v34 f hxs hy).result V (Proc.devRef .tc main_v34)
      = f (Fin.cons (V (Proc.devRef .tc main_cst)) (Fin.cons (V (Proc.devRef .tc main_cst_0)) (Fin.cons (V (Proc.devRef .tc main_cst_1))
          (Fin.cons (V (Proc.devRef .tc main_cst_2)) (Fin.cons (V (Proc.devRef .tc main_v32)) (Fin.cons (V (Proc.devRef .tc main_v33)) (fun i => i.elim0))))))) := by
  rw [StableHlo.nary_result]; congr 1; funext k; fin_cases k <;> rfl

theorem tables_congr {a0 b0 : FVec Ideal S128x128 .f32} {a1 b1 : FVec Ideal S128x128 .f32} {a2 b2 : FVec Ideal S512x128 .f32}
    {a3 b3 : FVec Ideal S16x128 .f32} {a4 b4 : FVec Ideal S512x128 .f32} {a5 b5 : FVec Ideal S16x128 .f32}
    (h0 : a0 = b0) (h1 : a1 = b1) (h2 : a2 = b2) (h3 : a3 = b3) (h4 : a4 = b4) (h5 : a5 = b5) :
    concatenate S1312x128 0 [⟨S128x128, a0⟩, ⟨S128x128, a1⟩, ⟨S512x128, a2⟩, ⟨S16x128, a3⟩, ⟨S512x128, a4⟩, ⟨S16x128, a5⟩]
      concatenates_S128x128_S128x128_S512x128_S16x128_S512x128_S16x128_S1312x128_d0
    = concatenate S1312x128 0 [⟨S128x128, b0⟩, ⟨S128x128, b1⟩, ⟨S512x128, b2⟩, ⟨S16x128, b3⟩, ⟨S512x128, b4⟩, ⟨S16x128, b5⟩]
      concatenates_S128x128_S128x128_S512x128_S16x128_S512x128_S16x128_S1312x128_d0 := by
  rw [h0, h1, h2, h3, h4, h5]

/-- Two stretches of host operations, one after the other. -/
theorem after_both (l r : List (HloOp τ sig (Elt Ideal))) (V : Valuation τ sig (Elt Ideal)) :
    StableHlo.after (l ++ r) V = StableHlo.after r (StableHlo.after l V) := by
  induction l generalizing V with
  | nil => rfl
  | cons o l ih => exact ih _

/-- The host operations before the tables are set together. -/
def front : List (HloOp τ sig (Elt Ideal)) := [hostOps0, hostOps0_1, hostOps0_2.take 25].flatten

theorem cst_eq : (StableHlo.after front (fun b => m (c, b)) (Proc.devRef .tc main_cst) : FVec Ideal S128x128 .f32)
    = (fun i => FloatOps.ofBits .f32 (lit0 (S128x128.rowMajor i)) : FVec Ideal S128x128 .f32) := by
  unfold front
  simp only [hostOps0, hostOps0_1, hostOps0_2, List.take_succ_cons, List.take_zero, List.flatten_cons, List.flatten_nil, List.append_nil, List.cons_append, List.nil_append]
  after_results
  rfl
theorem cst_0_eq : (StableHlo.after front (fun b => m (c, b)) (Proc.devRef .tc main_cst_0) : FVec Ideal S128x128 .f32)
    = (fun i => FloatOps.ofBits .f32 (lit1 (S128x128.rowMajor i)) : FVec Ideal S128x128 .f32) := by
  unfold front
  simp only [hostOps0, hostOps0_1, hostOps0_2, List.take_succ_cons, List.take_zero, List.flatten_cons, List.flatten_nil, List.append_nil, List.cons_append, List.nil_append]
  after_results
  rfl
theorem cst_1_eq : (StableHlo.after front (fun b => m (c, b)) (Proc.devRef .tc main_cst_1) : FVec Ideal S512x128 .f32)
    = (fun i => FloatOps.ofBits .f32 (lit2 (S512x128.rowMajor i)) : FVec Ideal S512x128 .f32) := by
  unfold front
  simp only [hostOps0, hostOps0_1, hostOps0_2, List.take_succ_cons, List.take_zero, List.flatten_cons, List.flatten_nil, List.append_nil, List.cons_append, List.nil_append]
  after_results
  rfl
theorem cst_2_eq : (StableHlo.after front (fun b => m (c, b)) (Proc.devRef .tc main_cst_2) : FVec Ideal S16x128 .f32)
    = (fun i => FloatOps.ofBits .f32 (lit3 (S16x128.rowMajor i)) : FVec Ideal S16x128 .f32) := by
  unfold front
  simp only [hostOps0, hostOps0_1, hostOps0_2, List.take_succ_cons, List.take_zero, List.flatten_cons, List.flatten_nil, List.append_nil, List.cons_append, List.nil_append]
  after_results
  rfl
theorem v33_eq : (StableHlo.after front (fun b => m (c, b)) (Proc.devRef .tc main_v33) : FVec Ideal S16x128 .f32)
    = extractStridedSlice S16x128 ![0, 0] (m ((c.tc : Thread nD τ).loc main_arg7)) slices_S416x128_S16x128_0_0 := by
  unfold front
  simp only [hostOps0, hostOps0_1, hostOps0_2, List.take_succ_cons, List.take_zero, List.flatten_cons, List.flatten_nil, List.append_nil, List.cons_append, List.nil_append]
  after_results
theorem v32_eq : (StableHlo.after front (fun b => m (c, b)) (Proc.devRef .tc main_v32) : FVec Ideal S512x128 .f32)
    = wgsTab (m ((c.tc : Thread nD τ).loc main_arg7)) := by
  unfold front
  simp only [hostOps0, hostOps0_1, hostOps0_2, List.take_succ_cons, List.take_zero, List.flatten_cons, List.flatten_nil, List.append_nil, List.cons_append, List.nil_append]
  after_results
  rfl

theorem v34_eq : (V0 m c main_v34 : FVec Ideal S1312x128 .f32) = tables (m ((c.tc : Thread nD τ).loc main_arg7)) := by
  have e : V0 m c = StableHlo.after (front ++ hostOps0_2.drop 25) (fun b => m (c, b)) := by
    rfl
  rw [e, after_both]
  have h0 := cst_eq m c
  have h1 := cst_0_eq m c
  have h2 := cst_1_eq m c
  have h3 := cst_2_eq m c
  have h4 := v32_eq m c
  have h5 := v33_eq m c
  generalize StableHlo.after front (fun b => m (c, b)) = W at h0 h1 h2 h3 h4 h5 ⊢
  simp only [hostOps0_2, List.drop_succ_cons, List.drop_zero, StableHlo.after_cons, StableHlo.after_nil]
  rw [StableHlo.reshape_result_ne]
  rotate_left
  · decide
  rw [six_result]
  exact tables_congr h0 h1 h2 h3 h4 h5

/-! The parameters. -/

/-- The host operations before the last row of the parameters is set. -/
def front19 : List (HloOp τ sig (Elt Ideal)) := [hostOps0, hostOps0_1, hostOps0_2.take 5].flatten

theorem v13_eq : (StableHlo.after front19 (fun b => m (c, b)) (Proc.devRef .tc main_v13) : FVec Ideal S8x128 .f32)
    = parHead (m ((c.tc : Thread nD τ).loc main_arg8)) (m ((c.tc : Thread nD τ).loc main_arg9)) (m ((c.tc : Thread nD τ).loc main_arg6)) := by
  unfold front19
  simp only [hostOps0, hostOps0_1, hostOps0_2, List.take_succ_cons, List.take_zero, List.flatten_cons, List.flatten_nil, List.append_nil, List.cons_append, List.nil_append]
  after_results
  rfl

theorem v18_eq : (StableHlo.after front19 (fun b => m (c, b)) (Proc.devRef .tc main_v18) : IVec S1 32) = at1 4#32 := by
  unfold front19
  simp only [hostOps0, hostOps0_1, hostOps0_2, List.take_succ_cons, List.take_zero, List.flatten_cons, List.flatten_nil, List.append_nil, List.cons_append, List.nil_append]
  after_results
  rfl

/-- Sixteen numbers repeated eight times. -/
def eight (v : FVec Ideal S16 .f32) : FVec Ideal S128 .f32 :=
  shapeCast S128 (broadcastInDim S8x16 ![0, 1] bcast_S1x16_S8x16_0_1 (shapeCast S1x16 v shapeCasts_S16_S1x16)) shapeCasts_S8x16_S128

theorem v17_eq : (StableHlo.after front19 (fun b => m (c, b)) (Proc.devRef .tc main_v17) : FVec Ideal S128 .f32)
    = eight (Cert.ReferenceIdeal.Read.val_main_v103 (F := Ideal)) := by
  unfold front19
  simp only [hostOps0, hostOps0_1, hostOps0_2, List.take_succ_cons, List.take_zero, List.flatten_cons, List.flatten_nil, List.append_nil, List.cons_append, List.nil_append]
  after_results
  rfl

theorem v19_eq : (V0 m c main_v19 : FVec Ideal S8x128 .f32) = Host.scatter scatter_S8x128_S1_S128_0_0_0_0 (fun _ b => b)
    (parHead (m ((c.tc : Thread nD τ).loc main_arg8)) (m ((c.tc : Thread nD τ).loc main_arg9)) (m ((c.tc : Thread nD τ).loc main_arg6)))
    (at1 4#32) (eight (Cert.ReferenceIdeal.Read.val_main_v103 (F := Ideal))) := by
  have e : V0 m c = StableHlo.after (front19 ++ hostOps0_2.drop 5) (fun b => m (c, b)) := by
    rfl
  rw [e, after_both]
  have h0 := v13_eq m c
  have h1 := v18_eq m c
  have h2 := v17_eq m c
  generalize StableHlo.after front19 (fun b => m (c, b)) = W at h0 h1 h2 ⊢
  simp only [hostOps0_2, List.drop_succ_cons, List.drop_zero]
  rw [← h0, ← h1, ← h2]
  after_results

/-! The coordinates. -/

theorem v0_at (b : Fin 2) (l : Fin 1024) (w : Fin 42) : V0 m c main_v0 (ix3 b l w)
    = m ((c.tc : Thread nD τ).loc main_arg0) (ix4 b l (⟨w.val / 3, by omega⟩ : Fin 14) (⟨w.val % 3, by omega⟩ : Fin 3)) := by
  unfold V0
  simp only [hostOps0, hostOps0_1, hostOps0_2, List.flatten_cons, List.flatten_nil, List.append_nil, List.cons_append, List.nil_append]
  after_reads_at

theorem v1_at (b : Fin 2) (l : Fin 1024) (w : Fin 42) : V0 m c main_v1 (ix3 b w l)
    = m ((c.tc : Thread nD τ).loc main_arg0) (ix4 b l (⟨w.val / 3, by omega⟩ : Fin 14) (⟨w.val % 3, by omega⟩ : Fin 3)) := by
  unfold V0
  simp only [hostOps0, hostOps0_1, hostOps0_2, List.flatten_cons, List.flatten_nil, List.append_nil, List.cons_append, List.nil_append]
  after_reads_at

theorem v35_at (b : Fin 2) (g : Fin 128) (j : Fin 8) (w : Fin 42) : V0 m c main_v35 (ix3 b g (⟨42 * j.val + w.val, by omega⟩ : Fin 336))
    = m ((c.tc : Thread nD τ).loc main_arg0) (ix4 b (⟨8 * g.val + j.val, by omega⟩ : Fin 1024) (⟨w.val / 3, by omega⟩ : Fin 14) (⟨w.val % 3, by omega⟩ : Fin 3)) := by
  unfold V0
  simp only [hostOps0, hostOps0_1, hostOps0_2, List.flatten_cons, List.flatten_nil, List.append_nil, List.cons_append, List.nil_append]
  after_reads_at
  congr 2
  apply Fin.ext
  show g.val * 8 + (42 * j.val + w.val) / 42 = 8 * g.val + j.val
  omega

end Cert.Edge

end
-- ==== Proof.Lit.lean ====
/- The tables of zeros and ones that the program carries as literals, each element in closed form.  A literal is
written as a choice by digits to base 128; `digit` is that choice with free arms, so its one reading serves every row. -/
module

public import proofs.«01_k».proof.KernelIdeal
public import Idealize.ShloMosaic.Lib.Tactic

@[expose] public section
set_option maxRecDepth 65536
noncomputable section
namespace Cert.Edge
open Idealize.ShloMosaic Cert.KernelIdeal

/-- The pattern of one where `b` holds, of zero elsewhere. -/
def mark (b : Bool) : BitVec 32 := cond b 0x3F800000#32 0x00000000#32

/-- A word chosen by a digit to base 128. -/
def digit (d : ℕ) (a : ℕ → BitVec 32) : BitVec 32 := match d with
  | 0 => a 0
  | 1 => a 1
  | 2 => a 2
  | 3 => a 3
  | 4 => a 4
  | 5 => a 5
  | 6 => a 6
  | 7 => a 7
  | 8 => a 8
  | 9 => a 9
  | 10 => a 10
  | 11 => a 11
  | 12 => a 12
  | 13 => a 13
  | 14 => a 14
  | 15 => a 15
  | 16 => a 16
  | 17 => a 17
  | 18 => a 18
  | 19 => a 19
  | 20 => a 20
  | 21 => a 21
  | 22 => a 22
  | 23 => a 23
  | 24 => a 24
  | 25 => a 25
  | 26 => a 26
  | 27 => a 27
  | 28 => a 28
  | 29 => a 29
  | 30 => a 30
  | 31 => a 31
  | 32 => a 32
  | 33 => a 33
  | 34 => a 34
  | 35 => a 35
  | 36 => a 36
  | 37 => a 37
  | 38 => a 38
  | 39 => a 39
  | 40 => a 40
  | 41 => a 41
  | 42 => a 42
  | 43 => a 43
  | 44 => a 44
  | 45 => a 45
  | 46 => a 46
  | 47 => a 47
  | 48 => a 48
  | 49 => a 49
  | 50 => a 50
  | 51 => a 51
  | 52 => a 52
  | 53 => a 53
  | 54 => a 54
  | 55 => a 55
  | 56 => a 56
  | 57 => a 57
  | 58 => a 58
  | 59 => a 59
  | 60 => a 60
  | 61 => a 61
  | 62 => a 62
  | 63 => a 63
  | 64 => a 64
  | 65 => a 65
  | 66 => a 66
  | 67 => a 67
  | 68 => a 68
  | 69 => a 69
  | 70 => a 70
  | 71 => a 71
  | 72 => a 72
  | 73 => a 73
  | 74 => a 74
  | 75 => a 75
  | 76 => a 76
  | 77 => a 77
  | 78 => a 78
  | 79 => a 79
  | 80 => a 80
  | 81 => a 81
  | 82 => a 82
  | 83 => a 83
  | 84 => a 84
  | 85 => a 85
  | 86 => a 86
  | 87 => a 87
  | 88 => a 88
  | 89 => a 89
  | 90 => a 90
  | 91 => a 91
  | 92 => a 92
  | 93 => a 93
  | 94 => a 94
  | 95 => a 95
  | 96 => a 96
  | 97 => a 97
  | 98 => a 98
  | 99 => a 99
  | 100 => a 100
  | 101 => a 101
  | 102 => a 102
  | 103 => a 103
  | 104 => a 104
  | 105 => a 105
  | 106 => a 106
  | 107 => a 107
  | 108 => a 108
  | 109 => a 109
  | 110 => a 110
  | 111 => a 111
  | 112 => a 112
  | 113 => a 113
  | 114 => a 114
  | 115 => a 115
  | 116 => a 116
  | 117 => a 117
  | 118 => a 118
  | 119 => a 119
  | 120 => a 120
  | 121 => a 121
  | 122 => a 122
  | 123 => a 123
  | 124 => a 124
  | 125 => a 125
  | 126 => a 126
  | 127 => a 127
  | _ => 0#32

/-- `digit` reads the arm of its digit. -/
theorem digit_at (a : ℕ → BitVec 32) : ∀ k : ℕ, k < 128 → digit k a = a k
  | 0, _ => rfl
  | 1, _ => rfl
  | 2, _ => rfl
  | 3, _ => rfl
  | 4, _ => rfl
  | 5, _ => rfl
  | 6, _ => rfl
  | 7, _ => rfl
  | 8, _ => rfl
  | 9, _ => rfl
  | 10, _ => rfl
  | 11, _ => rfl
  | 12, _ => rfl
  | 13, _ => rfl
  | 14, _ => rfl
  | 15, _ => rfl
  | 16, _ => rfl
  | 17, _ => rfl
  | 18, _ => rfl
  | 19, _ => rfl
  | 20, _ => rfl
  | 21, _ => rfl
  | 22, _ => rfl
  | 23, _ => rfl
  | 24, _ => rfl
  | 25, _ => rfl
  | 26, _ => rfl
  | 27, _ => rfl
  | 28, _ => rfl
  | 29, _ => rfl
  | 30, _ => rfl
  | 31, _ => rfl
  | 32, _ => rfl
  | 33, _ => rfl
  | 34, _ => rfl
  | 35, _ => rfl
  | 36, _ => rfl
  | 37, _ => rfl
  | 38, _ => rfl
  | 39, _ => rfl
  | 40, _ => rfl
  | 41, _ => rfl
  | 42, _ => rfl
  | 43, _ => rfl
  | 44, _ => rfl
  | 45, _ => rfl
  | 46, _ => rfl
  | 47, _ => rfl
  | 48, _ => rfl
  | 49, _ => rfl
  | 50, _ => rfl
  | 51, _ => rfl
  | 52, _ => rfl
  | 53, _ => rfl
  | 54, _ => rfl
  | 55, _ => rfl
  | 56, _ => rfl
  | 57, _ => rfl
  | 58, _ => rfl
  | 59, _ => rfl
  | 60, _ => rfl
  | 61, _ => rfl
  | 62, _ => rfl
  | 63, _ => rfl
  | 64, _ => rfl
  | 65, _ => rfl
  | 66, _ => rfl
  | 67, _ => rfl
  | 68, _ => rfl
  | 69, _ => rfl
  | 70, _ => rfl
  | 71, _ => rfl
  | 72, _ => rfl
  | 73, _ => rfl
  | 74, _ => rfl
  | 75, _ => rfl
  | 76, _ => rfl
  | 77, _ => rfl
  | 78, _ => rfl
  | 79, _ => rfl
  | 80, _ => rfl
  | 81, _ => rfl
  | 82, _ => rfl
  | 83, _ => rfl
  | 84, _ => rfl
  | 85, _ => rfl
  | 86, _ => rfl
  | 87, _ => rfl
  | 88, _ => rfl
  | 89, _ => rfl
  | 90, _ => rfl
  | 91, _ => rfl
  | 92, _ => rfl
  | 93, _ => rfl
  | 94, _ => rfl
  | 95, _ => rfl
  | 96, _ => rfl
  | 97, _ => rfl
  | 98, _ => rfl
  | 99, _ => rfl
  | 100, _ => rfl
  | 101, _ => rfl
  | 102, _ => rfl
  | 103, _ => rfl
  | 104, _ => rfl
  | 105, _ => rfl
  | 106, _ => rfl
  | 107, _ => rfl
  | 108, _ => rfl
  | 109, _ => rfl
  | 110, _ => rfl
  | 111, _ => rfl
  | 112, _ => rfl
  | 113, _ => rfl
  | 114, _ => rfl
  | 115, _ => rfl
  | 116, _ => rfl
  | 117, _ => rfl
  | 118, _ => rfl
  | 119, _ => rfl
  | 120, _ => rfl
  | 121, _ => rfl
  | 122, _ => rfl
  | 123, _ => rfl
  | 124, _ => rfl
  | 125, _ => rfl
  | 126, _ => rfl
  | 127, _ => rfl
  | n + 128, h => absurd h (by omega)

/-- A word chosen among 4. -/
def digitFour (d : ℕ) (a : ℕ → BitVec 32) : BitVec 32 := match d with
  | 0 => a 0
  | 1 => a 1
  | 2 => a 2
  | 3 => a 3
  | _ => 0#32

/-- `digitFour` reads the arm of its number. -/
theorem digitFour_at (a : ℕ → BitVec 32) : ∀ k : ℕ, k < 4 → digitFour k a = a k
  | 0, _ => rfl
  | 1, _ => rfl
  | 2, _ => rfl
  | 3, _ => rfl
  | n + 4, h => absurd h (by omega)

/-- A word chosen among 16. -/
def digitSixteen (d : ℕ) (a : ℕ → BitVec 32) : BitVec 32 := match d with
  | 0 => a 0
  | 1 => a 1
  | 2 => a 2
  | 3 => a 3
  | 4 => a 4
  | 5 => a 5
  | 6 => a 6
  | 7 => a 7
  | 8 => a 8
  | 9 => a 9
  | 10 => a 10
  | 11 => a 11
  | 12 => a 12
  | 13 => a 13
  | 14 => a 14
  | 15 => a 15
  | _ => 0#32

/-- `digitSixteen` reads the arm of its number. -/
theorem digitSixteen_at (a : ℕ → BitVec 32) : ∀ k : ℕ, k < 16 → digitSixteen k a = a k
  | 0, _ => rfl
  | 1, _ => rfl
  | 2, _ => rfl
  | 3, _ => rfl
  | 4, _ => rfl
  | 5, _ => rfl
  | 6, _ => rfl
  | 7, _ => rfl
  | 8, _ => rfl
  | 9, _ => rfl
  | 10, _ => rfl
  | 11, _ => rfl
  | 12, _ => rfl
  | 13, _ => rfl
  | 14, _ => rfl
  | 15, _ => rfl
  | n + 16, h => absurd h (by omega)

/-- The table that sums the three squares of each distance, as a choice by digits. -/
theorem lit0_pick (i : ℕ) : lit0t i
    = digit (i / 128) fun r => digit (i % 128) fun l => mark ((r / 3).beq l && l.blt 25) := by
  sl_kernel_rfl

/-- The table that lays out a neighbour's coordinates, as a choice by digits. -/
theorem lit1_pick (i : ℕ) : lit1t i
    = digit (i / 128) fun r => digit (i % 128) fun l =>
        mark ((r % 16).blt 15 && l.blt 75 && (l % 3).beq (r % 16 % 3) && (l / 3 % 5).beq (r % 16 / 3)) := by
  sl_kernel_rfl

/-- The table that repeats each distance sixteen times, as a choice by digits. -/
theorem lit2_pick (i : ℕ) : lit2t i
    = digitFour (i / 16384) fun g => digit (i / 128 % 128) fun r => digit (i % 128) fun l =>
        mark (r.beq (8 * g + l / 16) && r.blt 25) := by
  sl_kernel_rfl

/-- The table that lays out a residue's own coordinates, as a choice by digits. -/
theorem lit3_pick (i : ℕ) : lit3t i
    = digitSixteen (i / 128) fun r => digit (i % 128) fun l =>
        mark (r.blt 15 && l.blt 75 && (l % 3).beq (r % 3) && (l / 15).beq (r / 3)) := by
  sl_kernel_rfl

/-- The table that sums the three squares of each distance. -/
theorem lit0_at (r l : Fin 128) (h : 128 * r.val + l.val < 16384) : lit0 ⟨128 * r.val + l.val, h⟩
    = mark ((r.val / 3).beq l.val && l.val.blt 25) := by
  show lit0t _ = _
  rw [lit0_pick, show (128 * r.val + l.val) / 128 = r.val by omega, show (128 * r.val + l.val) % 128 = l.val by omega,
    digit_at _ _ r.isLt, digit_at _ _ l.isLt]

/-- The table that lays out a neighbour's coordinates. -/
theorem lit1_at (r l : Fin 128) (h : 128 * r.val + l.val < 16384) : lit1 ⟨128 * r.val + l.val, h⟩
    = mark ((r.val % 16).blt 15 && l.val.blt 75 && (l.val % 3).beq (r.val % 16 % 3)
        && (l.val / 3 % 5).beq (r.val % 16 / 3)) := by
  show lit1t _ = _
  rw [lit1_pick, show (128 * r.val + l.val) / 128 = r.val by omega, show (128 * r.val + l.val) % 128 = l.val by omega,
    digit_at _ _ r.isLt, digit_at _ _ l.isLt]

/-- The table that repeats each distance sixteen times, in four groups. -/
theorem lit2_at (g : Fin 4) (r l : Fin 128) (h : 128 * (128 * g.val + r.val) + l.val < 65536) :
    lit2 ⟨128 * (128 * g.val + r.val) + l.val, h⟩ = mark (r.val.beq (8 * g.val + l.val / 16) && r.val.blt 25) := by
  show lit2t _ = _
  rw [lit2_pick, show (128 * (128 * g.val + r.val) + l.val) / 16384 = g.val by omega,
    show (128 * (128 * g.val + r.val) + l.val) / 128 % 128 = r.val by omega,
    show (128 * (128 * g.val + r.val) + l.val) % 128 = l.val by omega,
    digitFour_at _ _ g.isLt, digit_at _ _ r.isLt, digit_at _ _ l.isLt]

/-- The table that lays out a residue's own coordinates. -/
theorem lit3_at (r : Fin 16) (l : Fin 128) (h : 128 * r.val + l.val < 2048) : lit3 ⟨128 * r.val + l.val, h⟩
    = mark (r.val.blt 15 && l.val.blt 75 && (l.val % 3).beq (r.val % 3) && (l.val / 15).beq (r.val / 3)) := by
  show lit3t _ = _
  rw [lit3_pick, show (128 * r.val + l.val) / 128 = r.val by omega, show (128 * r.val + l.val) % 128 = l.val by omega,
    digitSixteen_at _ _ r.isLt, digit_at _ _ l.isLt]

end Cert.Edge

end
-- ==== Proof.Place.lean ====
/- A block of rows, or one row, set into an array at a row: the array read at an index. -/
module

public import Idealize.ShloMosaic.Lib.Routing.OpsSet
public import Idealize.ShloMosaic.Lib.Routing.OpsPair
public import Idealize.ShloMosaic.Lib.Pointwise

@[expose] public section
noncomputable section
namespace Cert.Edge
open Idealize.ShloMosaic Idealize.ShloMosaic.Routing

variable {α : Type} {w M N P Q : ℕ} {si : Shape}

section
variable (d : ScatterDims ⟨2, ![M, N]⟩ si ⟨2, ![P, Q]⟩) (idx : IVec si w) (s : ℕ)
  (h : ∀ k, d.start k idx 0 + (d.window k 0 : ℤ) = ((s + (k 0).val : ℕ) : ℤ) ∧ d.start k idx 1 + (d.window k 1 : ℤ) = (((k 1).val : ℕ) : ℤ))
  (x : (⟨2, ![M, N]⟩ : Shape).Idx → α) (u : (⟨2, ![P, Q]⟩ : Shape).Idx → α)
include h

/-- Inside the block: the block's element. -/
theorem block_hit (r : Fin M) (l : Fin N) (r' : Fin P) (l' : Fin Q) (hr : r.val = s + r'.val) (hl : l.val = l'.val) :
    Host.scatter d (fun _ b => b) x idx u (ix2 r l) = u (ix2 r' l') := by
  refine scatter_set_hit d x idx u (ix2 r l) _ (fun k hk => ?_) (ix2 r' l') ?_
  · rw [resultIdx?_eq_some] at hk
    have a0 := hk 0
    have a1 := hk 1
    rw [(h k).1] at a0
    rw [(h k).2] at a1
    have b0 : s + (k 0).val = r.val := by exact_mod_cast a0
    have b1 : (k 1).val = l.val := by exact_mod_cast a1
    congr 1
    funext a
    match a with
    | 0 => exact Fin.ext (by show (k 0).val = r'.val; omega)
    | 1 => exact Fin.ext (by show (k 1).val = l'.val; omega)
  · rw [resultIdx?_eq_some]
    intro a
    match a with
    | 0 => refine (h _).1.trans ?_; show ((s + r'.val : ℕ) : ℤ) = (r.val : ℤ); rw [hr]
    | 1 => refine (h _).2.trans ?_; show ((l'.val : ℕ) : ℤ) = (l.val : ℤ); rw [hl]

/-- Outside the block: the array's element. -/
theorem block_miss (r : Fin M) (l : Fin N) (hr : r.val < s ∨ s + P ≤ r.val) :
    Host.scatter d (fun _ b => b) x idx u (ix2 r l) = x (ix2 r l) := by
  refine scatter_set_miss d x idx u (ix2 r l) fun k hk => ?_
  rw [resultIdx?_eq_some] at hk
  have a0 := hk 0
  rw [(h k).1] at a0
  have b0 : s + (k 0).val = r.val := by exact_mod_cast a0
  have : (k 0).val < P := (k 0).isLt
  omega
end

section
variable (d : ScatterDims ⟨2, ![M, N]⟩ si ⟨1, ![Q]⟩) (idx : IVec si w) (s : ℕ)
  (h : ∀ k, d.start k idx 0 + (d.window k 0 : ℤ) = ((s : ℕ) : ℤ) ∧ d.start k idx 1 + (d.window k 1 : ℤ) = (((k 0).val : ℕ) : ℤ))
  (x : (⟨2, ![M, N]⟩ : Shape).Idx → α) (u : (⟨1, ![Q]⟩ : Shape).Idx → α)
include h

/-- In the row: the row's element. -/
theorem line_hit (r : Fin M) (l : Fin N) (l' : Fin Q) (hr : r.val = s) (hl : l.val = l'.val) :
    Host.scatter d (fun _ b => b) x idx u (ix2 r l) = u (ix1 l') := by
  refine scatter_set_hit d x idx u (ix2 r l) _ (fun k hk => ?_) (ix1 l') ?_
  · rw [resultIdx?_eq_some] at hk
    have a1 := hk 1
    rw [(h k).2] at a1
    have b1 : (k 0).val = l.val := by exact_mod_cast a1
    congr 1
    funext a
    match a with
    | 0 => exact Fin.ext (by show (k 0).val = l'.val; omega)
  · rw [resultIdx?_eq_some]
    intro a
    match a with
    | 0 => refine (h _).1.trans ?_; show ((s : ℕ) : ℤ) = (r.val : ℤ); rw [hr]
    | 1 => refine (h _).2.trans ?_; show ((l'.val : ℕ) : ℤ) = (l.val : ℤ); rw [hl]

/-- In another row: the array's element. -/
theorem line_miss (r : Fin M) (l : Fin N) (hr : r.val ≠ s) :
    Host.scatter d (fun _ b => b) x idx u (ix2 r l) = x (ix2 r l) := by
  refine scatter_set_miss d x idx u (ix2 r l) fun k hk => ?_
  rw [resultIdx?_eq_some] at hk
  have a0 := hk 0
  rw [(h k).1] at a0
  have b0 : s = r.val := by exact_mod_cast a0
  omega
end

end Cert.Edge

end
-- ==== Proof.Sel.lean ====
/- The two ways to the `k` least of `n` numbers agree: repeatedly taking the least (of equals the first) and putting it
   out of reach, and a stable sort. -/
module

public import Idealize.ShloMosaic.Lib.SortPrefix
public import Mathlib.Data.EReal.Basic

@[expose] public section

noncomputable section

namespace Cert.Edge

open Idealize.ShloMosaic

/-! ## The repeated least -/

/-- `l` is the first place where `f` is least. -/
def IsLow {n : ℕ} (f : Fin n → EReal) (l : Fin n) : Prop := (∀ p, f l ≤ f p) ∧ ∀ p, f p = f l → l ≤ p

theorem exists_low {n : ℕ} [NeZero n] (f : Fin n → EReal) : ∃ l, IsLow f l := by
  classical
  obtain ⟨a, -, ha⟩ := Finset.exists_min_image Finset.univ f ⟨0, Finset.mem_univ _⟩
  have hne : (Finset.univ.filter fun p => f p = f a).Nonempty := ⟨a, by simp⟩
  refine ⟨(Finset.univ.filter fun p => f p = f a).min' hne, ?_, ?_⟩
  · intro p
    have h := Finset.min'_mem _ hne
    rw [Finset.mem_filter] at h
    rw [h.2]; exact ha p (Finset.mem_univ _)
  · intro p hp
    have h := Finset.min'_mem _ hne
    rw [Finset.mem_filter] at h
    exact Finset.min'_le _ _ (by rw [Finset.mem_filter]; exact ⟨Finset.mem_univ _, hp.trans h.2⟩)

theorem IsLow.unique {n : ℕ} {f : Fin n → EReal} {l l' : Fin n} (h : IsLow f l) (h' : IsLow f l') : l = l' := by
  have e : f l = f l' := le_antisymm (h.1 _) (h'.1 _)
  exact le_antisymm (h.2 _ e.symm) (h'.2 _ e)

/-- The first place where `f` is least. -/
def low {n : ℕ} [NeZero n] (f : Fin n → EReal) : Fin n := Classical.choose (exists_low f)

theorem low_spec {n : ℕ} [NeZero n] (f : Fin n → EReal) : IsLow f (low f) := Classical.choose_spec (exists_low f)

/-- `f` after `k` rounds, each putting the first least place at the top. -/
def left {n : ℕ} [NeZero n] (f : Fin n → EReal) : ℕ → Fin n → EReal
  | 0 => f
  | k + 1 => fun p => if p = low (left f k) then ⊤ else left f k p

/-- The place round `k` takes. -/
def sel {n : ℕ} [NeZero n] (f : Fin n → EReal) (k : ℕ) : Fin n := low (left f k)

section
variable {n : ℕ} [NeZero n] (f : Fin n → EReal)

/-- A place not yet taken holds what it held; a place taken holds the top. -/
theorem left_eq (k : ℕ) (p : Fin n) : left f k p = if ∃ i < k, sel f i = p then ⊤ else f p := by
  induction k with
  | zero => simp [left]
  | succ k ih =>
    show (if p = low (left f k) then ⊤ else left f k p) = _
    by_cases h : p = low (left f k)
    · rw [if_pos h, if_pos ⟨k, Nat.lt_succ_self k, h.symm⟩]
    · rw [if_neg h, ih]
      congr 1
      apply propext
      constructor
      · rintro ⟨i, hi, e⟩; exact ⟨i, by omega, e⟩
      · rintro ⟨i, hi, e⟩
        rcases Nat.lt_succ_iff_lt_or_eq.mp hi with h' | h'
        · exact ⟨i, h', e⟩
        · subst h'; exact absurd e.symm h

/-- While places are left, a round takes one of them. -/
theorem sel_new (hf : ∀ p, f p < ⊤) (k : ℕ) (hk : k < n) : ¬∃ i < k, sel f i = sel f k := by
  classical
  intro hx
  have htop : left f k (sel f k) = ⊤ := by rw [left_eq, if_pos hx]
  have hall : ∀ p, ∃ i < k, sel f i = p := by
    intro p
    by_contra hp
    have h1 := (low_spec (left f k)).1 p
    have h2 : left f k p = f p := by rw [left_eq, if_neg hp]
    have h3 : (⊤ : EReal) ≤ f p := by
      rw [← h2]; refine le_trans (le_of_eq htop.symm) h1
    exact absurd (hf p) (not_lt.mpr h3)
  have hsub : (Finset.univ : Finset (Fin n)) ⊆ (Finset.range k).image (sel f) := by
    intro p _
    obtain ⟨i, hi, e⟩ := hall p
    exact Finset.mem_image.mpr ⟨i, Finset.mem_range.mpr hi, e⟩
  have h := Finset.card_le_card hsub
  have h' := Finset.card_image_le (s := Finset.range k) (f := sel f)
  rw [Finset.card_univ, Fintype.card_fin] at h
  rw [Finset.card_range] at h'
  omega

/-- A round's place comes before every other place left, by value and then by number. -/
theorem sel_before (hf : ∀ p, f p < ⊤) (k : ℕ) (hk : k < n) (p : Fin n) (hp : ¬∃ i < k, sel f i = p) :
    f (sel f k) < f p ∨ (f (sel f k) = f p ∧ sel f k ≤ p) := by
  have h := low_spec (left f k)
  have e1 : left f k (sel f k) = f (sel f k) := by rw [left_eq, if_neg (sel_new f hf k hk)]
  have e2 : left f k p = f p := by rw [left_eq, if_neg hp]
  have h1 := h.1 p
  have h2 := h.2 p
  rw [e2] at h1 h2
  rw [show low (left f k) = sel f k from rfl, e1] at h1 h2
  rcases lt_or_eq_of_le h1 with h1 | h1
  · exact Or.inl h1
  · exact Or.inr ⟨h1, h2 h1.symm⟩

/-! ## The stable sort -/

/-- Before by value. -/
def byVal (k k' : Fin n) : Bool := decide (f k < f k')

/-- Before by value, of equals by number. -/
def byBoth (k k' : Fin n) : Bool := decide (f k < f k') || (decide (f k = f k') && decide (k < k'))

theorem byBoth_total : StrictTotalBefore (byBoth f) :=
  StrictTotalBefore.of_key_then_position (fun a b => decide (a < b)) f (by simp)
    (fun a b c h h' => by simp only [decide_eq_true_eq] at *; exact h.trans h')
    (fun a b => by simp only [decide_eq_true_eq]; exact lt_trichotomy a b)

/-- On a list in the order of the numbers the two comparisons sort alike. -/
theorem stableSort_both (l : List (Fin n)) (hl : l.Pairwise (· < ·)) : stableSort (byVal f) l = stableSort (byBoth f) l := by
  induction l with
  | nil => rfl
  | cons a l ih =>
    rw [List.pairwise_cons] at hl
    show insertBefore _ a (stableSort _ l) = insertBefore _ a (stableSort _ l)
    rw [ih hl.2]
    refine insertBefore_congr _ _ a _ fun b hb => ?_
    have hab : a < b := hl.1 b ((perm_stableSort _ l).mem_iff.mp hb)
    have : ¬b < a := not_lt.mpr hab.le
    simp [byVal, byBoth, this]

theorem sortedFrom_both : sortedFrom (byVal f) = sortedFrom (byBoth f) := by
  have h : sortPositions n (byVal f) = sortPositions n (byBoth f) :=
    stableSort_both f (List.finRange n) (List.pairwise_lt_finRange n)
  funext k
  unfold sortedFrom
  rw [List.get_of_eq h]
  rfl

/-- The stable sort's first `k` places are the rounds' places. -/
theorem sortedFrom_eq_sel (hf : ∀ p, f p < ⊤) {k : ℕ} (hk : k ≤ n) (i : Fin k) :
    sortedFrom (byVal f) (i.castLE hk) = sel f i := by
  rw [sortedFrom_both]
  refine (byBoth_total f).sortedFrom_eq_of_prefix hk (fun i => sel f i) ?_ ?_ ?_ i
  · intro a b hab
    dsimp only at hab
    rcases lt_trichotomy a b with h | h | h
    · exact absurd ⟨a.val, h, hab⟩ (sel_new f hf b (by omega))
    · exact h
    · exact absurd ⟨b.val, h, hab.symm⟩ (sel_new f hf a (by omega))
  · intro a b hab
    have hp : ¬∃ i < a.val, sel f i = sel f b := by
      rintro ⟨i, hi, e⟩
      exact sel_new f hf b (by omega) ⟨i, by have : a.val < b.val := hab; omega, e⟩
    have h := sel_before f hf a (by omega) _ hp
    simp only [byBoth, Bool.or_eq_false_iff, decide_eq_false_iff_not, Bool.and_eq_false_imp, decide_eq_true_eq]
    rcases h with h | ⟨h, h'⟩
    · exact ⟨not_lt.mpr h.le, fun e => absurd e.symm (ne_of_lt h)⟩
    · exact ⟨not_lt.mpr h.le, fun _ => not_lt.mpr h'⟩
  · intro a p hall
    have hp : ¬∃ i < a.val, sel f i = p := by
      rintro ⟨i, hi, e⟩
      exact hall ⟨i, by omega⟩ e
    have h := sel_before f hf a (by omega) _ hp
    simp only [byBoth, Bool.or_eq_false_iff, decide_eq_false_iff_not, Bool.and_eq_false_imp, decide_eq_true_eq]
    rcases h with h | ⟨h, h'⟩
    · exact ⟨not_lt.mpr h.le, fun e => absurd e.symm (ne_of_lt h)⟩
    · exact ⟨not_lt.mpr h.le, fun _ => not_lt.mpr h'⟩

end

end Cert.Edge

end
-- ==== Proof.Spec.lean ====
/- The mathematics of the edge features, over the reals: the atoms, the search for the nearest, the distances, the features
   before the normalisation, and the normalisation over the extended reals. -/
module

public import proofs.«01_k».proof.Proof.Sel
public import Idealize.ShloMosaic.PureOps.Ideal

@[expose] public section
noncomputable section
namespace Cert.EdgeSpec
open Idealize.ShloMosaic Cert.Edge

/-! ## The constants of the programs -/

/-- Added under the roots of the distances. -/
def eps : ℝ := (Ideal.ofBits .f32 0x358637BD#32).toReal
/-- The weight of the normal in the fifth atom. -/
def wN : ℝ := (Ideal.ofBits .f32 0x3F152E13#32).toReal
/-- The weight of the first bond in the fifth atom. -/
def wP : ℝ := (Ideal.ofBits .f32 0xBF116A4D#32).toReal
/-- The weight of the second bond in the fifth atom. -/
def wQ : ℝ := (Ideal.ofBits .f32 0xBF0A69A8#32).toReal

/-- A pattern of the wide format that is neither infinite nor no number nor tiny is a real. -/
theorem real_of (w : BitVec 32) (h : (w.extractLsb' 23 8).toNat ≠ 2 ^ 8 - 1) (h' : (w.extractLsb' 23 8).toNat ≠ 0) :
    Ideal.ofBits .f32 w = (((if w.extractLsb' 31 1 == 1#1 then (-1 : ℝ) else 1) * (2 ^ 23 + (w.extractLsb' 0 23).toNat : ℕ)
      * (2 : ℝ) ^ (((w.extractLsb' 23 8).toNat : ℤ) - (2 ^ (8 - 1) - 1) - (23 : ℕ)) : ℝ) : EReal) := by
  unfold Ideal.ofBits Ideal.ieee
  dsimp only
  rw [if_neg h, if_neg h']

theorem eps_eq : Ideal.ofBits .f32 0x358637BD#32 = ((eps : ℝ) : EReal) := by
  unfold eps; rw [real_of _ (by decide) (by decide), EReal.toReal_coe]
theorem wN_eq : Ideal.ofBits .f32 0x3F152E13#32 = ((wN : ℝ) : EReal) := by
  unfold wN; rw [real_of _ (by decide) (by decide), EReal.toReal_coe]
theorem wP_eq : Ideal.ofBits .f32 0xBF116A4D#32 = ((wP : ℝ) : EReal) := by
  unfold wP; rw [real_of _ (by decide) (by decide), EReal.toReal_coe]
theorem wQ_eq : Ideal.ofBits .f32 0xBF0A69A8#32 = ((wQ : ℝ) : EReal) := by
  unfold wQ; rw [real_of _ (by decide) (by decide), EReal.toReal_coe]
theorem one_bits : Ideal.ofBits .f32 0x3F800000#32 = 1 := by
  rw [real_of _ (by decide) (by decide), if_neg (by decide)]
  rw [← EReal.coe_one]
  congr 1
  rw [show ((1065353216#32).extractLsb' 23 8).toNat = 127 by decide, show ((1065353216#32).extractLsb' 0 23).toNat = 0 by decide]
  norm_num
theorem eps_nonneg : 0 ≤ eps := by
  unfold eps; rw [real_of _ (by decide) (by decide), EReal.toReal_coe, if_neg (by decide)]
  positivity

theorem sqrt_coe {r : ℝ} (h : 0 ≤ r) : Ideal.sqrt (r : EReal) = ((Real.sqrt r : ℝ) : EReal) := by
  show (if r < 0 then (⊥ : EReal) else (Real.sqrt r : EReal)) = _
  rw [if_neg (not_lt.mpr h)]

/-! ## The mathematics -/

variable (X : Fin 2 → Fin 1024 → Fin 4 → Fin 3 → ℝ)

/-- The bond from the second atom to the first. -/
def bondP (b : Fin 2) (l : Fin 1024) (c : Fin 3) : ℝ := X b l 0 c - X b l 1 c
/-- The bond from the second atom to the third. -/
def bondQ (b : Fin 2) (l : Fin 1024) (c : Fin 3) : ℝ := X b l 2 c - X b l 1 c

/-- The normal of the two bonds. -/
def normal (b : Fin 2) (l : Fin 1024) : Fin 3 → ℝ :=
  ![bondP X b l 1 * bondQ X b l 2 - bondP X b l 2 * bondQ X b l 1,
    bondP X b l 2 * bondQ X b l 0 - bondP X b l 0 * bondQ X b l 2,
    bondP X b l 0 * bondQ X b l 1 - bondP X b l 1 * bondQ X b l 0]

/-- The fifth atom. -/
def fifth (b : Fin 2) (l : Fin 1024) (c : Fin 3) : ℝ :=
  wN * normal X b l c + wP * bondP X b l c + wQ * bondQ X b l c + X b l 1 c

/-- The five atoms of a residue. -/
def atom (b : Fin 2) (l : Fin 1024) (i : Fin 5) (c : Fin 3) : ℝ :=
  if h : i.val < 4 then X b l ⟨i.val, h⟩ c else fifth X b l c

/-- The distance of two residues: of their second atoms. -/
def far (b : Fin 2) (l p : Fin 1024) : ℝ := Real.sqrt ((∑ c : Fin 3, (X b l 1 c - X b p 1 c) * (X b l 1 c - X b p 1 c)) + eps)

/-- The `k`-th nearest residue. -/
def near (b : Fin 2) (l : Fin 1024) (k : ℕ) : Fin 1024 := sel (fun p => ((far X b l p : ℝ) : EReal)) k

/-- The distance of atom `i` of a residue and atom `j` of its `k`-th nearest. -/
def gap (b : Fin 2) (l : Fin 1024) (k : ℕ) (i j : Fin 5) : ℝ :=
  Real.sqrt ((∑ c : Fin 3, (atom X b l i c - atom X b (near X b l k) j c) * (atom X b l i c - atom X b (near X b l k) j c)) + eps)

/-- The centres of the radial functions. -/
def mu (m : Fin 16) : ℝ := 2 + 4 / 3 * m.val

/-- The offset class of two residues along the chain. -/
def step (l e : Fin 1024) : Fin 66 := ⟨min (l.val + 32 - e.val) 64, by omega⟩

/-- The features of an edge before the normalisation. -/
def feat (Wp : Fin 66 → Fin 16 → ℝ) (bp : Fin 16 → ℝ) (We : Fin 416 → Fin 128 → ℝ) (b : Fin 2) (l : Fin 1024) (k : ℕ) (o : Fin 128) : ℝ :=
  (∑ p : Fin 16, (Wp (step l (near X b l k)) p + bp p) * We ⟨p.val, by omega⟩ o)
    + ∑ q : Fin 400, Real.exp (-((gap X b l k ⟨q.val / 80, by omega⟩ ⟨q.val / 16 % 5, by omega⟩ - mu ⟨q.val % 16, by omega⟩) * (4 / 5)
        * ((gap X b l k ⟨q.val / 80, by omega⟩ ⟨q.val / 16 % 5, by omega⟩ - mu ⟨q.val % 16, by omega⟩) * (4 / 5))))
        * We ⟨16 + q.val, by omega⟩ o

/-- The normalised features, scaled and shifted. -/
def normed (f : Fin 128 → EReal) (g s : EReal) (o : Fin 128) : EReal :=
  let mean : EReal := Ideal.div (∑ q, f q) (Ideal.ofBits .f32 0x43000000#32)
  Ideal.div (g * (f o - mean))
    (Ideal.sqrt (Ideal.div (∑ q, (f q - mean) * (f q - mean)) (Ideal.ofBits .f32 0x43000000#32) + Ideal.ofBits .f32 0x3727C5AC#32)) + s

theorem far_nonneg (b : Fin 2) (l p : Fin 1024) : 0 ≤ (∑ c : Fin 3, (X b l 1 c - X b p 1 c) * (X b l 1 c - X b p 1 c)) + eps :=
  add_nonneg (Finset.sum_nonneg fun c _ => mul_self_nonneg _) eps_nonneg

theorem gap_nonneg (b : Fin 2) (l e : Fin 1024) (i j : Fin 5) :
    0 ≤ (∑ c : Fin 3, (atom X b l i c - atom X b e j c) * (atom X b l i c - atom X b e j c)) + eps :=
  add_nonneg (Finset.sum_nonneg fun c _ => mul_self_nonneg _) eps_nonneg

/-- A sum of coerced reals. -/
theorem coe_sum {ι : Type} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

end Cert.EdgeSpec

end
-- ==== Proof.FeatA.lean ====
/- Words and one-hot rows of the feature stage, at an index. -/
module

public import proofs.«01_k».proof.Proof.BodyT
public import proofs.«01_k».proof.Proof.Spec
public import Idealize.ShloMosaic.Lib.Pointwise

@[expose] public section
set_option maxRecDepth 16384
noncomputable section
namespace Cert.Edge
open Idealize.ShloMosaic Idealize.ShloMosaic.TcCoe Cert.KernelIdeal Cert.EdgeSpec

/-! ## Words -/

/-- The word quotient, rounded down. -/
def fdivW (x n : BitVec 32) : BitVec 32 :=
  Scalar.select (IntOp.andi (IntOp.cmpi .ne (IntOp.subi (BitVec.setWidth 32 (IntOp.cmpi .sgt x 0#32))
      (BitVec.setWidth 32 (IntOp.cmpi .slt x 0#32)))
      (Scalar.subi (Scalar.extui (Scalar.cmpi .sgt n 0#32)) (Scalar.extui (Scalar.cmpi .slt n 0#32))))
    (IntOp.cmpi .ne (IntOp.remsi .vector x n) 0#32))
    (IntOp.subi (IntOp.divsi .vector x n) 1#32) (IntOp.divsi .vector x n)

theorem fdiv_apply {s : Shape} (x : IVec s 32) (n : BitVec 32) (i : s.Idx) : fdiv x n i = fdivW (x i) n := rfl

theorem fdivW_48 : ∀ a : Fin 3072, fdivW (BitVec.ofNat 32 a.val) 48#32 = BitVec.ofNat 32 (a.val / 48) := by decide +kernel
theorem fdivW_8 : ∀ a : Fin 1024, fdivW (BitVec.ofNat 32 a.val) 8#32 = BitVec.ofNat 32 (a.val / 8) := by decide +kernel
theorem fdivW_16 : ∀ a : Fin 128, fdivW (BitVec.ofNat 32 a.val) 16#32 = BitVec.ofNat 32 (a.val / 16) := by decide +kernel
theorem rest_8 : ∀ a : Fin 1024, BitVec.ofNat 32 a.val - 8#32 * BitVec.ofNat 32 (a.val / 8) = BitVec.ofNat 32 (a.val % 8) := by
  decide +kernel
theorem rest_48 : ∀ a : Fin 3072, BitVec.ofNat 32 a.val - BitVec.ofNat 32 (a.val / 48) * 48#32 = BitVec.ofNat 32 (a.val % 48) := by
  decide +kernel

/-- The clip to the offset classes. -/
def clipW (x : BitVec 32) : BitVec 32 := IntOp.minsi 64#32 (IntOp.maxsi 0#32 x)

theorem clip_up : ∀ a : Fin 1056, clipW (BitVec.ofNat 32 a.val) = BitVec.ofNat 32 (min a.val 64) := by decide +kernel
theorem clip_down : ∀ a : Fin 1024, clipW (-BitVec.ofNat 32 a.val) = 0#32 := by decide +kernel

/-- The clipped offset of two residue numbers. -/
theorem clip_step (l e : Fin 1024) :
    clipW (BitVec.ofNat 32 l.val - BitVec.ofNat 32 e.val + 32#32) = BitVec.ofNat 32 (step l e).val := by
  show _ = BitVec.ofNat 32 (min (l.val + 32 - e.val) 64)
  by_cases h : e.val ≤ l.val + 32
  · have := clip_up ⟨l.val + 32 - e.val, by omega⟩
    rw [← this]
    congr 1
    apply BitVec.eq_of_toNat_eq
    simp [BitVec.toNat_sub, BitVec.toNat_add, BitVec.toNat_ofNat]
    omega
  · have := clip_down ⟨e.val - (l.val + 32), by omega⟩
    rw [show min (l.val + 32 - e.val) 64 = 0 by omega, ← this]
    congr 1
    apply BitVec.eq_of_toNat_eq
    simp [BitVec.toNat_sub, BitVec.toNat_add, BitVec.toNat_ofNat, BitVec.toNat_neg]
    omega

theorem ofNat_inj {a b : ℕ} (ha : a < 4096) (hb : b < 4096) : BitVec.ofNat 32 a = BitVec.ofNat 32 b ↔ a = b := by
  constructor
  · intro h
    have := congrArg BitVec.toNat h
    simp [BitVec.toNat_ofNat] at this
    omega
  · rintro rfl; rfl

/-- A flag as a float. -/
theorem flag_real (x y : BitVec 32) :
    FloatOps.sitofp (F := Ideal) FTy.f32 (BitVec.setWidth 32 (IntOp.cmpi CmpIPredicate.eq x y))
      = (((if x = y then 1 else 0) : ℝ) : EReal) := by
  by_cases h : x = y
  · rw [if_pos h]
    have : IntOp.cmpi CmpIPredicate.eq x y = 1#1 := by simp [IntOp.cmpi, h]
    rw [this]
    show (((BitVec.setWidth 32 1#1).toInt : ℝ) : EReal) = _
    norm_num
  · rw [if_neg h]
    have : IntOp.cmpi CmpIPredicate.eq x y = 0#1 := by
      show BitVec.ofBool (x == y) = _
      rw [beq_eq_false_iff_ne.mpr h]; rfl
    rw [this]
    show (((BitVec.setWidth 32 0#1).toInt : ℝ) : EReal) = _
    norm_num

/-- The one-hot row of a lane number. -/
theorem hotF_at (x : IVec S3072x1 32) (r : Fin 3072) (l : Fin 128) (n : ℕ) (hn : n < 4096)
    (hx : x (ix2 r (0 : Fin 1)) = BitVec.ofNat 32 n) :
    hotF (F := Ideal) x (ix2 r l) = (((if l.val = n then 1 else 0) : ℝ) : EReal) := by
  have h : hotF (F := Ideal) x (ix2 r l)
      = FloatOps.sitofp FTy.f32 (BitVec.setWidth 32 (IntOp.cmpi CmpIPredicate.eq (BitVec.ofNat 32 l.val) (x (ix2 r (0 : Fin 1))))) := by
    pointwise [hotF, lane]
  rw [h, flag_real, hx]
  simp only [ofNat_inj (show l.val < 4096 by omega) hn]

@[inherit_doc hotF_at]
theorem hot_at (x : IVec S3072x1 32) (r : Fin 3072) (l : Fin 128) (n : ℕ) (hn : n < 4096)
    (hx : x (ix2 r (0 : Fin 1)) = BitVec.ofNat 32 n) :
    hot (F := Ideal) x (ix2 r l) = (((if l.val = n then 1 else 0) : ℝ) : EReal) := hotF_at x r l n hn hx

/-- The start residue of each edge. -/
theorem res_at (r : Fin 3072) : res (ix2 r (0 : Fin 1)) = BitVec.ofNat 32 (r.val / 48) := by
  show fdiv edge 48#32 _ = _
  rw [fdiv_apply, show edge (ix2 r (0 : Fin 1)) = BitVec.ofNat 32 r.val by pointwise [edge], fdivW_48]

/-! ## Products of reals -/

section
variable (x : FVec Ideal S128x128 .f32) (α : Fin 3072 → Fin 128 → ℝ) (ξ : Fin 128 → Fin 128 → ℝ)
  (hx : ∀ r l, x (ix2 r l) = ((ξ r l : ℝ) : EReal))

include hx in
theorem selMul_at (a : FVec Ideal S3072x128 .bf16) (r : Fin 3072) (ha : ∀ l, a (ix2 r l) = ((α r l : ℝ) : EReal)) (c : Fin 128) :
    selMul dot_S3072x128_S128x128_S3072x128_1_0_0_1_n_n a x (ix2 r c) = ((∑ l, α r l * ξ l c : ℝ) : EReal) := by
  pointwise [selMul, hi, lo]
  simp only [ha, hx, ← EReal.coe_sub, ← EReal.coe_mul, coe_sum, ← EReal.coe_add, sub_self, mul_zero, Finset.sum_const_zero, add_zero]

include hx in
/-- The selection of one row. -/
theorem selMul_hot (y : IVec S3072x1 32) (r : Fin 3072) (n : Fin 128) (hy : y (ix2 r (0 : Fin 1)) = BitVec.ofNat 32 n.val) (c : Fin 128) :
    selMul dot_S3072x128_S128x128_S3072x128_1_0_0_1_n_n (hot (F := Ideal) y) x (ix2 r c) = ((ξ n c : ℝ) : EReal) := by
  rw [selMul_at x (fun _ l => if l.val = n.val then 1 else 0) ξ hx _ r (fun l => hot_at y r l n.val (by omega) hy)]
  congr 1
  rw [Finset.sum_eq_single n]
  · simp
  · intro b _ hb
    rw [if_neg (fun h => hb (Fin.ext h)), zero_mul]
  · simp

include hx in
theorem mulTab_at (a : FVec Ideal S3072x128 .f32) (r : Fin 3072) (ha : ∀ l, a (ix2 r l) = ((α r l : ℝ) : EReal)) (c : Fin 128) :
    mulTab dot_S3072x128_S128x128_S3072x128_1_0_0_1_n_n a x (ix2 r c) = ((∑ l, α r l * ξ l c : ℝ) : EReal) := by
  pointwise [mulTab, hi, lo]
  simp only [ha, hx, ← EReal.coe_sub, ← EReal.coe_mul, coe_sum, ← EReal.coe_add, sub_self, zero_mul, Finset.sum_const_zero, add_zero]

include hx in
theorem dot3_at (a : FVec Ideal S3072x128 .f32) (r : Fin 3072) (ha : ∀ l, a (ix2 r l) = ((α r l : ℝ) : EReal)) (c : Fin 128) :
    dot3 dot_S3072x128_S128x128_S3072x128_1_0_0_1_n_n a x (ix2 r c) = ((∑ l, α r l * ξ l c : ℝ) : EReal) := by
  pointwise [dot3, hi, lo]
  simp only [ha, hx, ← EReal.coe_sub, ← EReal.coe_mul, coe_sum, ← EReal.coe_add, sub_self, zero_mul, mul_zero,
    Finset.sum_const_zero, add_zero]

end

theorem mulTab16_at (a : FVec Ideal S128x16 .f32) (x : FVec Ideal S16x128 .f32) (α : Fin 128 → Fin 16 → ℝ) (ξ : Fin 16 → Fin 128 → ℝ)
    (ha : ∀ r l, a (ix2 r l) = ((α r l : ℝ) : EReal)) (hx : ∀ r l, x (ix2 r l) = ((ξ r l : ℝ) : EReal)) (r c : Fin 128) :
    mulTab dot_S128x16_S16x128_S128x128_1_0_0_1_n_n a x (ix2 r c) = ((∑ l, α r l * ξ l c : ℝ) : EReal) := by
  pointwise [mulTab, hi, lo]
  simp only [ha, hx, ← EReal.coe_sub, ← EReal.coe_mul, coe_sum, ← EReal.coe_add, sub_self, zero_mul, Finset.sum_const_zero, add_zero]

theorem dot3_16_at (a : FVec Ideal S128x16 .f32) (x : FVec Ideal S16x128 .f32) (α : Fin 128 → Fin 16 → ℝ) (ξ : Fin 16 → Fin 128 → ℝ)
    (ha : ∀ r l, a (ix2 r l) = ((α r l : ℝ) : EReal)) (hx : ∀ r l, x (ix2 r l) = ((ξ r l : ℝ) : EReal)) (r c : Fin 128) :
    dot3 dot_S128x16_S16x128_S128x128_1_0_0_1_n_n a x (ix2 r c) = ((∑ l, α r l * ξ l c : ℝ) : EReal) := by
  pointwise [dot3, hi, lo]
  simp only [ha, hx, ← EReal.coe_sub, ← EReal.coe_mul, coe_sum, ← EReal.coe_add, sub_self, zero_mul, mul_zero,
    Finset.sum_const_zero, add_zero]

theorem dot3_1_at (a : FVec Ideal S1x16 .f32) (x : FVec Ideal S16x128 .f32) (α : Fin 16 → ℝ) (ξ : Fin 16 → Fin 128 → ℝ)
    (ha : ∀ l, a (ix2 (0 : Fin 1) l) = ((α l : ℝ) : EReal)) (hx : ∀ r l, x (ix2 r l) = ((ξ r l : ℝ) : EReal)) (c : Fin 128) :
    dot3 dot_S1x16_S16x128_S1x128_1_0_0_1_n_n a x (ix2 (0 : Fin 1) c) = ((∑ l, α l * ξ l c : ℝ) : EReal) := by
  pointwise [dot3, hi, lo]
  simp only [ha, hx, ← EReal.coe_sub, ← EReal.coe_mul, coe_sum, ← EReal.coe_add, sub_self, zero_mul, mul_zero,
    Finset.sum_const_zero, add_zero]

/-! ## The neighbour numbers -/

/-- A half added and truncated gives the number back. -/
theorem round_half (n : ℕ) (hn : n < 4096) :
    FloatOps.fptosi (F := Ideal) (φ := .f32) 32 (((n : ℝ) : EReal) + Ideal.ofBits FTy.f32 1056964608#32) = BitVec.ofNat 32 n := by
  have hh : Ideal.ofBits FTy.f32 1056964608#32 = (((1 / 2 : ℝ)) : EReal) := by
    rw [real_of _ (by decide) (by decide), if_neg (by decide)]
    congr 1
    rw [show ((1056964608#32).extractLsb' 23 8).toNat = 126 by decide, show ((1056964608#32).extractLsb' 0 23).toNat = 0 by decide]
    norm_num
  rw [hh, ← EReal.coe_add]
  show Ideal.fptosi 32 _ = _
  rw [Ideal.fptosi, Ideal.toIntClamped_coe, if_pos (by positivity)]
  have : ⌊(n : ℝ) + 1 / 2⌋ = (n : ℤ) := by
    rw [Int.floor_eq_iff]
    constructor <;> push_cast <;> linarith
  rw [this]
  have : max (-(2 ^ (32 - 1) : ℕ) : ℤ) (min ((2 ^ (32 - 1) : ℕ) - 1) (n : ℤ)) = (n : ℤ) := by
    norm_num; omega
  rw [this, BitVec.ofInt_natCast]

theorem padPicks_at (p : IVec S64x48 32) (n : Fin 64 → Fin 48 → ℕ) (hn : ∀ r k, n r k < 4096)
    (hp : ∀ r k, p (ix2 r k) = BitVec.ofNat 32 (n r k)) (r l : Fin 128) :
    padPicks (F := Ideal) p (ix2 r l)
      = (((if h : r.val < 64 ∧ l.val < 48 then (n ⟨r.val, h.1⟩ ⟨l.val, h.2⟩ : ℝ) else 0) : ℝ) : EReal) := by
  have h0 : padPicks (F := Ideal) p (ix2 r l)
      = if h : r.val < 64 then if h_1 : l.val < 48 then FloatOps.sitofp FTy.f32 (p (ix2 ⟨r.val, h⟩ ⟨l.val, h_1⟩)) else 0 else 0 := by
    pointwise [padPicks]
  rw [h0]
  by_cases h : r.val < 64
  · by_cases h1 : l.val < 48
    · rw [dif_pos h, dif_pos h1, dif_pos ⟨h, h1⟩, hp]
      show (((BitVec.ofNat 32 (n ⟨r.val, h⟩ ⟨l.val, h1⟩)).toInt : ℝ) : EReal) = _
      have := hn ⟨r.val, h⟩ ⟨l.val, h1⟩
      rw [BitVec.toInt_eq_toNat_of_lt (by simp [BitVec.toNat_ofNat]; omega), BitVec.toNat_ofNat, Nat.mod_eq_of_lt (by omega)]
      simp
    · rw [dif_pos h, dif_neg h1, dif_neg (fun h' => h1 h'.2)]; rfl
  · rw [dif_neg h, dif_neg (fun h' => h h'.1)]; rfl

/-- The neighbour number of each edge: the one picked for its start residue and its place. -/
theorem nbr_at (p : IVec S64x48 32) (n : Fin 64 → Fin 48 → ℕ) (hn : ∀ r k, n r k < 4096)
    (hp : ∀ r k, p (ix2 r k) = BitVec.ofNat 32 (n r k)) (r : Fin 3072) :
    nbr (F := Ideal) p (ix2 r (0 : Fin 1)) = BitVec.ofNat 32 (n ⟨r.val / 48, by omega⟩ ⟨r.val % 48, by omega⟩) := by
  have h0 : nbr (F := Ideal) p (ix2 r (0 : Fin 1)) = FloatOps.fptosi 32
      (∑ x, selMul dot_S3072x128_S128x128_S3072x128_1_0_0_1_n_n (hot res) (padPicks p) (ix2 r x) *
            hotF (subi edge (muli res (broadcast S3072x1 48#32))) (ix2 r x) + Ideal.ofBits FTy.f32 1056964608#32) := by
    pointwise [nbr]
  have h1 : (subi edge (muli res (broadcast S3072x1 48#32))) (ix2 r (0 : Fin 1)) = BitVec.ofNat 32 (r.val % 48) := by
    rw [← rest_48 r, ← res_at r, ← show edge (ix2 r (0 : Fin 1)) = BitVec.ofNat 32 r.val by pointwise [edge]]
    rfl
  have h2 : ∀ x : Fin 128, selMul dot_S3072x128_S128x128_S3072x128_1_0_0_1_n_n (hot res) (padPicks (F := Ideal) p) (ix2 r x) *
            hotF (subi edge (muli res (broadcast S3072x1 48#32))) (ix2 r x)
      = (((if x = (⟨r.val % 48, by omega⟩ : Fin 128) then (n ⟨r.val / 48, by omega⟩ ⟨r.val % 48, by omega⟩ : ℝ) else 0) : ℝ) : EReal) := by
    intro x
    rw [selMul_hot _ _ (padPicks_at p n hn hp) res r ⟨r.val / 48, by omega⟩ (res_at r), hotF_at _ r x _ (by omega) h1,
      ← EReal.coe_mul]
    congr 1
    by_cases hx : x = (⟨r.val % 48, by omega⟩ : Fin 128)
    · subst hx
      rw [if_pos rfl, if_pos rfl, dif_pos ⟨show r.val / 48 < 64 by omega, show r.val % 48 < 48 by omega⟩, mul_one]
    · rw [if_neg hx, if_neg (fun h => hx (Fin.ext h)), mul_zero]
  have h3 : (∑ x, selMul dot_S3072x128_S128x128_S3072x128_1_0_0_1_n_n (hot res) (padPicks (F := Ideal) p) (ix2 r x) *
            hotF (subi edge (muli res (broadcast S3072x1 48#32))) (ix2 r x))
      = ((n ⟨r.val / 48, by omega⟩ ⟨r.val % 48, by omega⟩ : ℝ) : EReal) := by
    rw [Finset.sum_congr rfl (fun x _ => h2 x), coe_sum, Finset.sum_ite_eq' Finset.univ, if_pos (Finset.mem_univ _)]
  rw [h0, h3]
  exact round_half _ (hn _ _)

end Cert.Edge
end
-- ==== Proof.FeatB.lean ====
/- The stages of the feature block at an index, over real atoms and tables. -/
module

public import proofs.«01_k».proof.Proof.FeatA

@[expose] public section
set_option maxRecDepth 16384
noncomputable section
namespace Cert.Edge
open Idealize.ShloMosaic Idealize.ShloMosaic.TcCoe Cert.KernelIdeal Cert.EdgeSpec

/-! ## Sums against zeros and ones -/

/-- A number of a truth value. -/
def ind (p : Prop) [Decidable p] : ℝ := if p then 1 else 0

theorem sum_ind {n : ℕ} (f : Fin n → ℝ) (p : Fin n → Prop) [DecidablePred p] (k : Fin n) (h : ∀ i, p i ↔ i = k) :
    ∑ i, f i * ind (p i) = f k := by
  rw [Finset.sum_eq_single k]
  · simp [ind, h]
  · intro i _ hi
    simp [ind, h, hi]
  · simp

theorem sum_ind_none {n : ℕ} (f : Fin n → ℝ) (p : Fin n → Prop) [DecidablePred p] (h : ∀ i, ¬p i) :
    ∑ i, f i * ind (p i) = 0 := by
  apply Finset.sum_eq_zero
  intro i _
  simp [ind, h]

theorem sum_ind_three (f : Fin 128 → ℝ) (p : ℕ) (hp : p < 25) :
    ∑ i : Fin 128, f i * ind (i.val / 3 = p ∧ p < 25) = ∑ d : Fin 3, f ⟨3 * p + d.val, by omega⟩ := by
  have : ∀ d : Fin 3, f ⟨3 * p + d.val, by omega⟩ = ∑ i : Fin 128, f i * ind (i.val = 3 * p + d.val) :=
    fun d => (sum_ind f _ ⟨3 * p + d.val, by omega⟩ (fun i => by rw [Fin.ext_iff])).symm
  rw [Finset.sum_congr rfl (fun d _ => this d), Finset.sum_comm]
  refine Finset.sum_congr rfl (fun i _ => ?_)
  rw [← Finset.mul_sum]
  congr 1
  rw [Fin.sum_univ_three]
  unfold ind
  by_cases h : i.val / 3 = p
  · rw [if_pos ⟨h, hp⟩]
    have h3 : i.val = 3 * p + 0 ∨ i.val = 3 * p + 1 ∨ i.val = 3 * p + 2 := by omega
    rcases h3 with h3 | h3 | h3 <;> simp [h3]
  · rw [if_neg (fun h' => h h'.1), if_neg (by show ¬ i.val = 3 * p + 0; omega), if_neg (by show ¬ i.val = 3 * p + 1; omega),
      if_neg (by show ¬ i.val = 3 * p + 2; omega)]
    norm_num

/-- A sum over 400 in four groups of 128. -/
theorem sum_groups (f : Fin 400 → ℝ) :
    ∑ q, f q = ∑ g : Fin 4, ∑ l : Fin 128, if h : 128 * g.val + l.val < 400 then f ⟨128 * g.val + l.val, h⟩ else 0 := by
  let F : ℕ → ℝ := fun n => if h : n < 400 then f ⟨n, h⟩ else 0
  have h1 : ∑ q, f q = ∑ n ∈ Finset.range 400, F n := by
    rw [Finset.sum_range]
    exact Finset.sum_congr rfl fun q _ => by simp [F]
  have h2 : ∑ n ∈ Finset.range 400, F n = ∑ n ∈ Finset.range (400 + 112), F n := by
    rw [Finset.sum_range_add]
    have : ∑ x ∈ Finset.range 112, F (400 + x) = 0 := Finset.sum_eq_zero fun x _ => by simp [F]
    rw [this, add_zero]
  rw [h1, h2, show 400 + 112 = 128 + 128 + 128 + 128 from rfl, Finset.sum_range_add, Finset.sum_range_add, Finset.sum_range_add,
    Fin.sum_univ_four]
  simp only [Finset.sum_range]
  rfl

/-! ## The stages -/

variable (X : Fin 2 → Fin 1024 → Fin 4 → Fin 3 → ℝ) (b : Fin 2)

/-- The own atoms: each of the 75 places holds a coordinate of the start residue. -/
theorem ownAtoms_at (a : FVec Ideal S64x16 .f32) (EA : Vec Ideal S16x128 .f32) (A : Fin 64 → ℕ → ℝ)
    (ha : ∀ r (k : Fin 16), a (ix2 r k) = ((A r k.val : ℝ) : EReal))
    (hE : ∀ (k : Fin 16) (c : Fin 128), EA (ix2 k c) = ((ind (k.val < 15 ∧ c.val < 75 ∧ c.val % 3 = k.val % 3 ∧ c.val / 15 = k.val / 3) : ℝ) : EReal))
    (r : Fin 3072) (c : Fin 128) :
    ownAtoms a EA (ix2 r c) = ((if c.val < 75 then A ⟨r.val / 48, by omega⟩ (3 * (c.val / 15) + c.val % 3) else 0 : ℝ) : EReal) := by
  pointwise [ownAtoms]
  have hc : ∀ (g : Fin 128) (k : Fin 16), (concatenate S128x16 0 [⟨S64x16, a⟩, ⟨S64x16, broadcast S64x16 (Ideal.ofBits FTy.f32 0#32)⟩]
          Gen.concatenates_S64x16_S64x16_S128x16_d0 : FVec Ideal S128x16 .f32) (ix2 g k)
        = ((if h : g.val < 64 then A ⟨g.val, h⟩ k.val else 0 : ℝ) : EReal) := by
    intro g k
    pointwise []
    by_cases h : g.val < 64
    · rw [dif_pos h, dif_pos h, ha]
    · rw [dif_neg h, dif_neg h]; rfl
  refine (selMul_hot _ _ (mulTab16_at _ EA _ _ hc hE) res r ⟨r.val / 48, by omega⟩ (res_at r) c).trans ?_
  congr 1
  simp only [dif_pos (show r.val / 48 < 64 by omega)]
  by_cases h : c.val < 75
  · rw [if_pos h]
    refine sum_ind (fun k : Fin 16 => A ⟨r.val / 48, by omega⟩ k.val) _ ⟨3 * (c.val / 15) + c.val % 3, by omega⟩ (fun k => ?_)
    rw [Fin.ext_iff]
    show _ ↔ k.val = 3 * (c.val / 15) + c.val % 3
    omega
  · rw [if_neg h]
    exact sum_ind_none (fun k : Fin 16 => A ⟨r.val / 48, by omega⟩ k.val) _ (fun k => by omega)

/-- The neighbour's atoms: each of the 75 places holds a coordinate of the end residue. -/
theorem nbrAtoms_at (tab EB : Vec Ideal S128x128 .f32) (T : Fin 1024 → ℕ → ℝ) (y : IVec S3072x1 32)
    (ht : ∀ g c : Fin 128, tab (ix2 g c) = ((T ⟨8 * g.val + c.val / 16, by omega⟩ (c.val % 16) : ℝ) : EReal))
    (hE : ∀ (k c : Fin 128), EB (ix2 k c) = ((ind (k.val % 16 < 15 ∧ c.val < 75 ∧ c.val % 3 = k.val % 16 % 3 ∧ c.val / 3 % 5 = k.val % 16 / 3) : ℝ) : EReal))
    (r : Fin 3072) (e : Fin 1024) (hy : y (ix2 r (0 : Fin 1)) = BitVec.ofNat 32 e.val) (c : Fin 128) :
    nbrAtoms tab y EB (ix2 r c) = ((if c.val < 75 then T e (3 * (c.val / 3 % 5) + c.val % 3) else 0 : ℝ) : EReal) := by
  pointwise [nbrAtoms]
  have h8 : fdiv y 8#32 (ix2 r (0 : Fin 1)) = BitVec.ofNat 32 (e.val / 8) := by
    rw [fdiv_apply, hy, fdivW_8]
  have hf : ∀ l : Fin 128, (sitofp FTy.f32 (extui 32 (cmpi CmpIPredicate.eq (fdiv lane 16#32)
              (broadcastTo S3072x128 (subi y (muli (broadcast S3072x1 8#32) (fdiv y 8#32))) Gen.broadcasts_S3072x1_S3072x128))
            Gen.natLt_1_32) : FVec Ideal S3072x128 .f32) (ix2 r l) = ((ind (l.val / 16 = e.val % 8) : ℝ) : EReal) := by
    intro l
    pointwise []
    rw [flag_real]
    have h1 : fdiv lane 16#32 (ix2 r l) = BitVec.ofNat 32 (l.val / 16) := by
      rw [fdiv_apply, show lane (ix2 r l) = BitVec.ofNat 32 l.val by pointwise [lane], fdivW_16]
    rw [h1, h8, hy]
    have h2 := rest_8 e
    have h3 : IntOp.subi (BitVec.ofNat 32 e.val) (IntOp.muli 8#32 (BitVec.ofNat 32 (e.val / 8))) = BitVec.ofNat 32 (e.val % 8) := h2
    rw [h3]
    unfold ind
    simp only [ofNat_inj (show l.val / 16 < 4096 by omega) (show e.val % 8 < 4096 by omega)]
  refine (mulTab_at EB (fun _ l => T ⟨8 * (e.val / 8) + l.val / 16, by omega⟩ (l.val % 16) * ind (l.val / 16 = e.val % 8)) _ hE _ r
    (fun l => ?_) c).trans ?_
  · show _ * _ = _
    rw [hf, selMul_hot tab _ ht (fdiv y 8#32) r ⟨e.val / 8, by omega⟩ h8, ← EReal.coe_mul]
  · congr 1
    by_cases h : c.val < 75
    · rw [if_pos h]
      have h4 : ∀ l : Fin 128, T ⟨8 * (e.val / 8) + l.val / 16, by omega⟩ (l.val % 16) * ind (l.val / 16 = e.val % 8)
          * ind (l.val % 16 < 15 ∧ c.val < 75 ∧ c.val % 3 = l.val % 16 % 3 ∧ c.val / 3 % 5 = l.val % 16 / 3)
          = T ⟨8 * (e.val / 8) + l.val / 16, by omega⟩ (l.val % 16) * ind (l.val / 16 = e.val % 8 ∧
            (l.val % 16 < 15 ∧ c.val < 75 ∧ c.val % 3 = l.val % 16 % 3 ∧ c.val / 3 % 5 = l.val % 16 / 3)) := by
        intro l
        unfold ind
        by_cases h5 : l.val / 16 = e.val % 8 <;> simp [h5]
      rw [Finset.sum_congr rfl (fun l _ => h4 l)]
      rw [sum_ind _ _ ⟨16 * (e.val % 8) + (3 * (c.val / 3 % 5) + c.val % 3), by omega⟩ (fun k => by
        rw [Fin.ext_iff]
        show _ ↔ k.val = 16 * (e.val % 8) + (3 * (c.val / 3 % 5) + c.val % 3)
        constructor
        · rintro ⟨h1, h2, h3, h4, h5⟩
          have : k.val % 16 = 3 * (k.val % 16 / 3) + k.val % 16 % 3 := by omega
          rw [← h5, ← h4] at this
          omega
        · intro h1
          have : k.val % 16 = 3 * (c.val / 3 % 5) + c.val % 3 := by omega
          rw [this]
          refine ⟨by omega, by omega, h, by omega, by omega⟩)]
      congr 1
      · apply Fin.ext
        show 8 * (e.val / 8) + (16 * (e.val % 8) + (3 * (c.val / 3 % 5) + c.val % 3)) / 16 = e.val
        omega
      · show (16 * (e.val % 8) + (3 * (c.val / 3 % 5) + c.val % 3)) % 16 = _
        omega
    · rw [if_neg h]
      exact sum_ind_none _ _ (fun k => by omega)

/-- The distances. -/
theorem pairDist_at (df : FVec Ideal S3072x128 .f32) (ER : Vec Ideal S128x128 .f32) (r : Fin 3072) (D : Fin 128 → ℝ)
    (hd : ∀ c, df (ix2 r c) = ((D c : ℝ) : EReal))
    (hE : ∀ (k c : Fin 128), ER (ix2 k c) = ((ind (k.val / 3 = c.val ∧ c.val < 25) : ℝ) : EReal)) (p : Fin 128) :
    pairDist df ER (ix2 r p)
      = ((Real.sqrt ((if h : p.val < 25 then ∑ d : Fin 3, D ⟨3 * p.val + d.val, by omega⟩ * D ⟨3 * p.val + d.val, by omega⟩ else 0) + eps) : ℝ) : EReal) := by
  pointwise [pairDist]
  rw [mulTab_at ER (fun _ l => D l * D l) _ hE (mulf df df) r (fun l => by
    show df (ix2 r l) * df (ix2 r l) = _
    rw [hd, EReal.coe_mul]), eps_eq, ← EReal.coe_add]
  by_cases h : p.val < 25
  · rw [dif_pos h, sum_ind_three (fun l => D l * D l) p.val h, sqrt_coe]
    exact add_nonneg (Finset.sum_nonneg fun c _ => mul_self_nonneg _) eps_nonneg
  · rw [dif_neg h, sum_ind_none (fun l : Fin 128 => D l * D l) _ (fun k => by omega), sqrt_coe]
    rw [zero_add]; exact eps_nonneg

/-- One group's radial functions. -/
theorem rbf_at (dist : FVec Ideal S3072x128 .f32) (mu : Vec Ideal S1x128 .f32) (EG : Vec Ideal S128x128 .f32) (g : ℕ) (r : Fin 3072)
    (D : ℕ → ℝ) (M : Fin 128 → ℝ) (hd : ∀ c : Fin 128, dist (ix2 r c) = ((D c.val : ℝ) : EReal))
    (hm : ∀ c : Fin 128, mu (ix2 (0 : Fin 1) c) = ((M c : ℝ) : EReal)) (hg : g < 4)
    (hE : ∀ (k c : Fin 128), EG (ix2 k c) = ((ind (k.val = 8 * g + c.val / 16 ∧ k.val < 25) : ℝ) : EReal)) (c : Fin 128) :
    rbf dist mu EG (ix2 r c)
      = ((Real.exp (-(((if 8 * g + c.val / 16 < 25 then D (8 * g + c.val / 16) else 0) * (4 / 5) - M c * (4 / 5))
        * ((if 8 * g + c.val / 16 < 25 then D (8 * g + c.val / 16) else 0) * (4 / 5) - M c * (4 / 5)))) : ℝ) : EReal) := by
  pointwise [rbf]
  have hs : (Named.named κ "inv_sigma" 1061997773#32 : Ideal .f32) = ((4 / 5 : ℝ) : EReal) :=
    (IdealRules.named_const.statement κ "inv_sigma" .f32 0x3F4CCCCD#32 ((4 / 5 : ℝ) : EReal) rfl).2.2
  rw [mulTab_at EG (fun _ l => D l.val) _ hE dist r hd, hm, hs]
  have h1 : ∑ l : Fin 128, D l.val * ind (l.val = 8 * g + c.val / 16 ∧ l.val < 25)
      = if 8 * g + c.val / 16 < 25 then D (8 * g + c.val / 16) else 0 := by
    by_cases h : 8 * g + c.val / 16 < 25
    · rw [if_pos h]
      exact sum_ind (fun l : Fin 128 => D l.val) _ ⟨8 * g + c.val / 16, by omega⟩ (fun k => by
        rw [Fin.ext_iff]; show _ ↔ k.val = 8 * g + c.val / 16; omega)
    · rw [if_neg h]
      exact sum_ind_none _ _ (fun k => by omega)
  rw [h1, ← EReal.coe_mul, ← EReal.coe_mul, ← EReal.coe_sub, ← EReal.coe_mul, ← EReal.coe_zero, ← EReal.coe_sub, zero_sub]
  rfl

/-- One group added. -/
theorem addGroup_at (acc dist : FVec Ideal S3072x128 .f32) (mu : Vec Ideal S1x128 .f32) (EG WG : Vec Ideal S128x128 .f32) (g : ℕ)
    (r : Fin 3072) (D : ℕ → ℝ) (M : Fin 128 → ℝ) (W : Fin 128 → Fin 128 → ℝ) (o : Fin 128) (a : ℝ)
    (hacc : acc (ix2 r o) = ((a : ℝ) : EReal)) (hd : ∀ c : Fin 128, dist (ix2 r c) = ((D c.val : ℝ) : EReal))
    (hm : ∀ c : Fin 128, mu (ix2 (0 : Fin 1) c) = ((M c : ℝ) : EReal)) (hg : g < 4)
    (hE : ∀ (k c : Fin 128), EG (ix2 k c) = ((ind (k.val = 8 * g + c.val / 16 ∧ k.val < 25) : ℝ) : EReal))
    (hW : ∀ l o, WG (ix2 l o) = ((W l o : ℝ) : EReal)) :
    addGroup acc dist mu EG WG (ix2 r o)
      = ((a + ∑ c : Fin 128, Real.exp (-(((if 8 * g + c.val / 16 < 25 then D (8 * g + c.val / 16) else 0) * (4 / 5) - M c * (4 / 5))
        * ((if 8 * g + c.val / 16 < 25 then D (8 * g + c.val / 16) else 0) * (4 / 5) - M c * (4 / 5)))) * W c o : ℝ) : EReal) := by
  pointwise [addGroup]
  rw [dot3_at WG (fun _ c => Real.exp (-(((if 8 * g + c.val / 16 < 25 then D (8 * g + c.val / 16) else 0) * (4 / 5) - M c * (4 / 5))
        * ((if 8 * g + c.val / 16 < 25 then D (8 * g + c.val / 16) else 0) * (4 / 5) - M c * (4 / 5))))) W hW _ r
      (fun c => rbf_at dist mu EG g r D M hd hm hg hE c), hacc, ← EReal.coe_add]

/-- The positional part. -/
theorem posPart_at (o : IVec S3072x1 32) (w16 : Vec Ideal S16x128 .f32) (wpos : Vec Ideal S128x16 .f32) (bpos : Vec Ideal S1x16 .f32)
    (We : Fin 16 → Fin 128 → ℝ) (Wp : Fin 128 → Fin 16 → ℝ) (bp : Fin 16 → ℝ)
    (hw : ∀ k c, w16 (ix2 k c) = ((We k c : ℝ) : EReal)) (hp : ∀ k c, wpos (ix2 k c) = ((Wp k c : ℝ) : EReal))
    (hb : ∀ c, bpos (ix2 (0 : Fin 1) c) = ((bp c : ℝ) : EReal)) (r : Fin 3072) (n : Fin 128)
    (ho : o (ix2 r (0 : Fin 1)) = BitVec.ofNat 32 n.val) (c : Fin 128) :
    posPart o w16 wpos bpos (ix2 r c) = ((∑ k, (Wp n k + bp k) * We k c : ℝ) : EReal) := by
  pointwise [posPart]
  rw [selMul_hot _ _ (dot3_16_at wpos w16 Wp We hp hw) o r n ho c, dot3_1_at bpos w16 bp We hb hw c, ← EReal.coe_add,
    ← Finset.sum_add_distrib]
  congr 1
  exact Finset.sum_congr rfl fun k _ => by ring

/-- The clipped offsets. -/
theorem offs_at (q : Fin 16) (y : IVec S3072x1 32) (r : Fin 3072) (e : Fin 1024) (hy : y (ix2 r (0 : Fin 1)) = BitVec.ofNat 32 e.val) :
    offs (Scalar.muli (BitVec.ofNat 32 q.val) 64#32) y (ix2 r (0 : Fin 1))
      = BitVec.ofNat 32 (step ⟨64 * q.val + r.val / 48, by omega⟩ e).val := by
  rw [← clip_step]
  have h : offs (Scalar.muli (BitVec.ofNat 32 q.val) 64#32) y (ix2 r (0 : Fin 1))
      = clipW (Scalar.muli (BitVec.ofNat 32 q.val) 64#32 + res (ix2 r (0 : Fin 1)) - y (ix2 r (0 : Fin 1)) + 32#32) := by
    pointwise [offs]
    rfl
  rw [h, hy, res_at]
  congr 3
  show BitVec.ofNat 32 q.val * 64#32 + _ = _
  apply BitVec.eq_of_toNat_eq
  simp [BitVec.toNat_add, BitVec.toNat_mul, BitVec.toNat_ofNat]
  omega

/-- The normalised block. -/
theorem norm_at (h : FVec Ideal S3072x128 .f32) (g s : Vec Ideal S1x128 .f32) (r : Fin 3072) (o : Fin 128) :
    norm h g s (ix3 (0 : Fin 1) r o)
      = normed (fun c => h (ix2 r c)) (g (ix2 (0 : Fin 1) o)) (s (ix2 (0 : Fin 1) o)) o := by
  pointwise [norm, rowMean]
  rfl

end Cert.Edge
end
-- ==== Proof.HostAt.lean ====
/- The arrays the kernel reads, element by element. -/
module

public import proofs.«01_k».proof.Proof.Host
public import proofs.«01_k».proof.Proof.Lit
public import proofs.«01_k».proof.Proof.Place
public import proofs.«01_k».proof.Proof.FeatB

@[expose] public section
set_option maxRecDepth 16384
noncomputable section
namespace Cert.Edge
open Idealize.ShloMosaic Idealize.ShloMosaic.TcCoe Cert.KernelIdeal Cert.KernelIdeal.Gen Idealize.SL.Sem Cert.EdgeSpec

/-! ## The tables of zeros and ones -/

/-- A marked word as a number. -/
theorem mark_real (b : Bool) : (Ideal.ofBits .f32 (mark b)) = ((ind (b = true) : ℝ) : EReal) := by
  cases b
  · show Ideal.ofBits .f32 0x00000000#32 = _
    unfold ind
    rw [if_neg (by decide)]
    pointwise []
    rfl
  · show Ideal.ofBits .f32 0x3F800000#32 = _
    unfold ind
    rw [if_pos rfl, one_bits]
    rfl

theorem ind_congr (p q : Prop) [Decidable p] [Decidable q] (h : p ↔ q) : ind p = ind q := by
  unfold ind
  by_cases hp : p
  · rw [if_pos hp, if_pos (h.mp hp)]
  · rw [if_neg hp, if_neg (fun hq => hp (h.mpr hq))]

/-- The place of an element in the row-major order. -/
theorem place_at {M N : ℕ} (r : Fin M) (l : Fin N) (n : ℕ) (h : N * r.val + l.val < (⟨2, ![M, N]⟩ : Shape).numel) :
    (⟨2, ![M, N]⟩ : Shape).rowMajor (ix2 r l) = ⟨N * r.val + l.val, h⟩ := by
  apply Fin.ext
  rw [Shape.rowMajor_val_two]
  show r.val * N + l.val = N * r.val + l.val
  rw [mul_comm]

variable (w : FVec Ideal S416x128 .f32)

set_option maxHeartbeats 2000000 in
theorem tables_at (r : Fin 1312) (c : Fin 128) : tables w (ix2 r c)
    = if h : r.val < 128 then Ideal.ofBits FTy.f32 (lit0 (S128x128.rowMajor (ix2 (⟨r.val, h⟩ : Fin 128) c)))
    else if h : r.val - 128 < 128 then Ideal.ofBits FTy.f32 (lit1 (S128x128.rowMajor (ix2 (⟨r.val - 128, h⟩ : Fin 128) c)))
    else if h : r.val - 128 - 128 < 512 then Ideal.ofBits FTy.f32 (lit2 (S512x128.rowMajor (ix2 (⟨r.val - 128 - 128, h⟩ : Fin 512) c)))
    else if h : r.val - 128 - 128 - 512 < 16 then
      Ideal.ofBits FTy.f32 (lit3 (S16x128.rowMajor (ix2 (⟨r.val - 128 - 128 - 512, h⟩ : Fin 16) c)))
    else if h : r.val - 128 - 128 - 512 - 16 < 512 then wgsTab w (ix2 (⟨r.val - 128 - 128 - 512 - 16, h⟩ : Fin 512) c)
    else w (ix2 (⟨r.val - 128 - 128 - 512 - 16 - 512, by omega⟩ : Fin 416) c) := by
  pointwise [tables]

/-- The rows that sum three squares. -/
theorem tables_sum (k c : Fin 128) (h : 0 + k.val < 1312) :
    tables w (ix2 (⟨0 + k.val, h⟩ : Fin 1312) c) = ((ind (k.val / 3 = c.val ∧ c.val < 25) : ℝ) : EReal) := by
  rw [tables_at, dif_pos (show 0 + k.val < 128 by omega)]
  have : (⟨0 + k.val, by omega⟩ : Fin 128) = k := Fin.ext (by show 0 + k.val = k.val; omega)
  rw [this]
  have hp : S128x128.rowMajor (ix2 k c) = ⟨128 * k.val + c.val, by show _ < 16384; omega⟩ := place_at k c 0 _
  rw [hp]
  refine (congrArg (Ideal.ofBits FTy.f32) (lit0_at k c (by omega))).trans ?_
  rw [mark_real]
  congr 1
  apply ind_congr
  simp [Nat.blt_eq]

/-- The rows that lay out a neighbour. -/
theorem tables_nbr (k c : Fin 128) (h : 128 + k.val < 1312) :
    tables w (ix2 (⟨128 + k.val, h⟩ : Fin 1312) c)
      = ((ind (k.val % 16 < 15 ∧ c.val < 75 ∧ c.val % 3 = k.val % 16 % 3 ∧ c.val / 3 % 5 = k.val % 16 / 3) : ℝ) : EReal) := by
  rw [tables_at, dif_neg (show ¬128 + k.val < 128 by omega), dif_pos (show 128 + k.val - 128 < 128 by omega)]
  have : (⟨128 + k.val - 128, by omega⟩ : Fin 128) = k := Fin.ext (by show 128 + k.val - 128 = k.val; omega)
  rw [this]
  have hp : S128x128.rowMajor (ix2 k c) = ⟨128 * k.val + c.val, by show _ < 16384; omega⟩ := place_at k c 0 _
  rw [hp]
  refine (congrArg (Ideal.ofBits FTy.f32) (lit1_at k c (by omega))).trans ?_
  rw [mark_real]
  congr 1
  apply ind_congr
  simp [Nat.blt_eq, and_assoc]

/-- The rows that repeat the distances of one group. -/
theorem tables_rep (g : ℕ) (hg : g < 4) (k c : Fin 128) (h : (256 + 128 * g) + k.val < 1312) :
    tables w (ix2 (⟨(256 + 128 * g) + k.val, h⟩ : Fin 1312) c) = ((ind (k.val = 8 * g + c.val / 16 ∧ k.val < 25) : ℝ) : EReal) := by
  rw [tables_at, dif_neg (by show ¬(256 + 128 * g) + k.val < 128; omega), dif_neg (by show ¬(256 + 128 * g) + k.val - 128 < 128; omega),
    dif_pos (show (256 + 128 * g) + k.val - 128 - 128 < 512 by omega)]
  have : (⟨(256 + 128 * g) + k.val - 128 - 128, by omega⟩ : Fin 512) = ⟨128 * g + k.val, by omega⟩ :=
    Fin.ext (by show (256 + 128 * g) + k.val - 128 - 128 = 128 * g + k.val; omega)
  rw [this]
  have hp : S512x128.rowMajor (ix2 (⟨128 * g + k.val, by omega⟩ : Fin 512) c)
      = ⟨128 * (128 * g + k.val) + c.val, by show _ < 65536; omega⟩ := place_at (⟨128 * g + k.val, by omega⟩ : Fin 512) c 0 _
  rw [hp]
  refine (congrArg (Ideal.ofBits FTy.f32) (lit2_at ⟨g, hg⟩ k c (by show _ < 65536; dsimp only; omega))).trans ?_
  rw [mark_real]
  congr 1
  apply ind_congr
  simp [Nat.blt_eq]

/-- The rows that lay out the own residue. -/
theorem tables_own (k : Fin 16) (c : Fin 128) (h : 768 + k.val < 1312) :
    tables w (ix2 (⟨768 + k.val, h⟩ : Fin 1312) c)
      = ((ind (k.val < 15 ∧ c.val < 75 ∧ c.val % 3 = k.val % 3 ∧ c.val / 15 = k.val / 3) : ℝ) : EReal) := by
  rw [tables_at, dif_neg (by show ¬768 + k.val < 128; omega), dif_neg (by show ¬768 + k.val - 128 < 128; omega),
    dif_neg (by show ¬768 + k.val - 128 - 128 < 512; omega), dif_pos (show 768 + k.val - 128 - 128 - 512 < 16 by omega)]
  have : (⟨768 + k.val - 128 - 128 - 512, by omega⟩ : Fin 16) = k :=
    Fin.ext (by show 768 + k.val - 128 - 128 - 512 = k.val; omega)
  rw [this]
  have hp : S16x128.rowMajor (ix2 k c) = ⟨128 * k.val + c.val, by show _ < 2048; omega⟩ := place_at k c 0 _
  rw [hp]
  refine (congrArg (Ideal.ofBits FTy.f32) (lit3_at k c (by omega))).trans ?_
  rw [mark_real]
  congr 1
  apply ind_congr
  simp [Nat.blt_eq, and_assoc]

/-! ## The weights -/

theorem start_512 (v : BitVec 32) (s : ℕ) (hv : v.toInt = (s : ℤ)) : ∀ k,
    scatter_S512x128_S1_S128x128_01_n_0_0.start k (at1 v) 0 + (scatter_S512x128_S1_S128x128_01_n_0_0.window k 0 : ℤ)
      = ((s + (k 0).val : ℕ) : ℤ)
    ∧ scatter_S512x128_S1_S128x128_01_n_0_0.start k (at1 v) 1 + (scatter_S512x128_S1_S128x128_01_n_0_0.window k 1 : ℤ)
      = (((k 1).val : ℕ) : ℤ) := by
  intro k
  constructor
  · show v.toInt + ((k 0).val : ℤ) = _
    rw [hv]; push_cast; rfl
  · show 0 + ((k 1).val : ℤ) = _
    simp

theorem start_512_16 (v : BitVec 32) (s : ℕ) (hv : v.toInt = (s : ℤ)) : ∀ k,
    scatter_S512x128_S1_S16x128_01_n_0_0.start k (at1 v) 0 + (scatter_S512x128_S1_S16x128_01_n_0_0.window k 0 : ℤ)
      = ((s + (k 0).val : ℕ) : ℤ)
    ∧ scatter_S512x128_S1_S16x128_01_n_0_0.start k (at1 v) 1 + (scatter_S512x128_S1_S16x128_01_n_0_0.window k 1 : ℤ)
      = (((k 1).val : ℕ) : ℤ) := by
  intro k
  constructor
  · show v.toInt + ((k 0).val : ℤ) = _
    rw [hv]; push_cast; rfl
  · show 0 + ((k 1).val : ℤ) = _
    simp

theorem start_66 : ∀ k,
    scatter_S128x16_S1_S66x16_01_n_0_0.start k (at1 0#32) 0 + (scatter_S128x16_S1_S66x16_01_n_0_0.window k 0 : ℤ)
      = ((0 + (k 0).val : ℕ) : ℤ)
    ∧ scatter_S128x16_S1_S66x16_01_n_0_0.start k (at1 0#32) 1 + (scatter_S128x16_S1_S66x16_01_n_0_0.window k 1 : ℤ)
      = (((k 1).val : ℕ) : ℤ) := by
  intro k
  constructor
  · show (0#32).toInt + ((k 0).val : ℤ) = _
    simp
  · show 0 + ((k 1).val : ℤ) = _
    simp

theorem start_row (v : BitVec 32) (s : ℕ) (hv : v.toInt = (s : ℤ)) : ∀ k,
    scatter_S8x128_S1_S128_0_0_0_0.start k (at1 v) 0 + (scatter_S8x128_S1_S128_0_0_0_0.window k 0 : ℤ) = ((s : ℕ) : ℤ)
    ∧ scatter_S8x128_S1_S128_0_0_0_0.start k (at1 v) 1 + (scatter_S8x128_S1_S128_0_0_0_0.window k 1 : ℤ) = (((k 0).val : ℕ) : ℤ) := by
  intro k
  constructor
  · show v.toInt + ((0 : ℕ) : ℤ) = _
    rw [hv]; simp
  · show 0 + ((k 0).val : ℤ) = _
    simp

theorem start_bias : ∀ k,
    scatter_S8x128_S2_S16_0_0_01_0.start k (concatenate S2 0 [⟨S1, at1 2#32⟩, ⟨S1, at1 0#32⟩] concatenates_S1_S1_S2_d0) 0
      + (scatter_S8x128_S2_S16_0_0_01_0.window k 0 : ℤ) = ((2 : ℕ) : ℤ)
    ∧ scatter_S8x128_S2_S16_0_0_01_0.start k (concatenate S2 0 [⟨S1, at1 2#32⟩, ⟨S1, at1 0#32⟩] concatenates_S1_S1_S2_d0) 1
      + (scatter_S8x128_S2_S16_0_0_01_0.window k 1 : ℤ) = (((k 0).val : ℕ) : ℤ) := by
  intro k
  constructor
  · show (2#32).toInt + ((0 : ℕ) : ℤ) = _
    rfl
  · show (0#32).toInt + ((k 0).val : ℤ) = _
    simp

/-- The weights of the radial functions, then zeros. -/
theorem wgsTab_at (n : Fin 512) (o : Fin 128) :
    wgsTab w (ix2 n o) = if h : n.val < 400 then w (ix2 (⟨16 + n.val, by omega⟩ : Fin 416) o) else 0 := by
  unfold wgsTab
  by_cases h4 : 384 ≤ n.val ∧ n.val < 400
  · rw [block_hit _ _ 384 (start_512_16 384#32 384 (by decide)) _ _ n o (⟨n.val - 384, by omega⟩ : Fin 16) o
      (by show n.val = 384 + (n.val - 384); omega) rfl, dif_pos h4.2]
    pointwise []
    congr 2
    apply Fin.ext
    show 400 + (n.val - 384) = 16 + n.val
    omega
  rw [block_miss _ _ 384 (start_512_16 384#32 384 (by decide)) _ _ n o (by omega)]
  by_cases h3 : 256 ≤ n.val ∧ n.val < 384
  · rw [block_hit _ _ 256 (start_512 256#32 256 (by decide)) _ _ n o (⟨n.val - 256, by omega⟩ : Fin 128) o
      (by show n.val = 256 + (n.val - 256); omega) rfl, dif_pos (by omega)]
    pointwise []
    congr 2
    apply Fin.ext
    show 272 + (n.val - 256) = 16 + n.val
    omega
  rw [block_miss _ _ 256 (start_512 256#32 256 (by decide)) _ _ n o (by omega)]
  by_cases h2 : 128 ≤ n.val ∧ n.val < 256
  · rw [block_hit _ _ 128 (start_512 128#32 128 (by decide)) _ _ n o (⟨n.val - 128, by omega⟩ : Fin 128) o
      (by show n.val = 128 + (n.val - 128); omega) rfl, dif_pos (by omega)]
    pointwise []
    congr 2
    apply Fin.ext
    show 144 + (n.val - 128) = 16 + n.val
    omega
  rw [block_miss _ _ 128 (start_512 128#32 128 (by decide)) _ _ n o (by omega)]
  by_cases h1 : n.val < 128
  · rw [block_hit _ _ 0 (start_512 0#32 0 (by decide)) _ _ n o (⟨n.val, h1⟩ : Fin 128) o
      (by show n.val = 0 + n.val; omega) rfl, dif_pos (by omega)]
    pointwise []
  rw [block_miss _ _ 0 (start_512 0#32 0 (by decide)) _ _ n o (by omega), dif_neg (by omega)]
  pointwise []

/-- The rows of the radial functions' weights. -/
theorem tables_wgs (g : ℕ) (hg : g < 4) (k c : Fin 128) (h : (784 + 128 * g) + k.val < 1312) :
    tables w (ix2 (⟨(784 + 128 * g) + k.val, h⟩ : Fin 1312) c)
      = if h : 128 * g + k.val < 400 then w (ix2 (⟨16 + (128 * g + k.val), by omega⟩ : Fin 416) c) else 0 := by
  rw [tables_at, dif_neg (by show ¬(784 + 128 * g) + k.val < 128; omega), dif_neg (by show ¬(784 + 128 * g) + k.val - 128 < 128; omega),
    dif_neg (by show ¬(784 + 128 * g) + k.val - 128 - 128 < 512; omega),
    dif_neg (by show ¬(784 + 128 * g) + k.val - 128 - 128 - 512 < 16; omega),
    dif_pos (show (784 + 128 * g) + k.val - 128 - 128 - 512 - 16 < 512 by omega)]
  have : (⟨(784 + 128 * g) + k.val - 128 - 128 - 512 - 16, by omega⟩ : Fin 512) = ⟨128 * g + k.val, by omega⟩ :=
    Fin.ext (by show (784 + 128 * g) + k.val - 128 - 128 - 512 - 16 = 128 * g + k.val; omega)
  rw [this, wgsTab_at]

/-- The rows of the positional weights. -/
theorem tables_w16 (k : Fin 16) (c : Fin 128) (h : 1296 + k.val < 1312) :
    tables w (ix2 (⟨1296 + k.val, h⟩ : Fin 1312) c) = w (ix2 (⟨k.val, by omega⟩ : Fin 416) c) := by
  rw [tables_at, dif_neg (by show ¬1296 + k.val < 128; omega), dif_neg (by show ¬1296 + k.val - 128 < 128; omega),
    dif_neg (by show ¬1296 + k.val - 128 - 128 < 512; omega), dif_neg (by show ¬1296 + k.val - 128 - 128 - 512 < 16; omega),
    dif_neg (by show ¬1296 + k.val - 128 - 128 - 512 - 16 < 512; omega)]
  congr 2
  apply Fin.ext
  show 1296 + k.val - 128 - 128 - 512 - 16 - 512 = k.val
  omega

/-- The offset-class rows, then zeros. -/
theorem wposTab_at (u : FVec Ideal S66x16 .f32) (r : Fin 128) (l : Fin 16) :
    wposTab u (ix2 r l) = if h : r.val < 66 then u (ix2 (⟨r.val, h⟩ : Fin 66) l) else 0 := by
  unfold wposTab
  by_cases h : r.val < 66
  · rw [block_hit _ _ 0 start_66 _ _ r l (⟨r.val, h⟩ : Fin 66) l (by show r.val = 0 + r.val; omega) rfl, dif_pos h]
  · rw [block_miss _ _ 0 start_66 _ _ r l (by omega), dif_neg h]
    pointwise []

theorem eight_at (v : FVec Ideal S16 .f32) (l : Fin 128) : eight v (ix1 l) = v (ix1 (⟨l.val % 16, by omega⟩ : Fin 16)) := by
  pointwise [eight]

/-! ## The parameters -/

section
variable (g s : FVec Ideal S128 .f32) (bp : FVec Ideal S16 .f32) (u : FVec Ideal S128 .f32)

/-- The parameters' array. -/
def params : FVec Ideal S8x128 .f32 :=
  Host.scatter scatter_S8x128_S1_S128_0_0_0_0 (fun _ b => b) (parHead g s bp) (at1 4#32) u

theorem params_0 (l : Fin 128) : params g s bp u (ix2 (0 : Fin 8) l) = g (ix1 l) := by
  unfold params parHead
  rw [line_miss _ _ 4 (start_row 4#32 4 (by decide)) _ _ 0 l (by decide), line_miss _ _ 2 start_bias _ _ 0 l (by decide),
    line_miss _ _ 1 (start_row 1#32 1 (by decide)) _ _ 0 l (by decide),
    line_hit _ _ 0 (start_row 0#32 0 (by decide)) _ _ 0 l l rfl rfl]

theorem params_1 (l : Fin 128) : params g s bp u (ix2 (1 : Fin 8) l) = s (ix1 l) := by
  unfold params parHead
  rw [line_miss _ _ 4 (start_row 4#32 4 (by decide)) _ _ 1 l (by decide), line_miss _ _ 2 start_bias _ _ 1 l (by decide),
    line_hit _ _ 1 (start_row 1#32 1 (by decide)) _ _ 1 l l rfl rfl]

theorem params_2 (l : Fin 16) : params g s bp u (ix2 (2 : Fin 8) (⟨l.val, by omega⟩ : Fin 128)) = bp (ix1 l) := by
  unfold params parHead
  rw [line_miss _ _ 4 (start_row 4#32 4 (by decide)) _ _ 2 _ (by decide), line_hit _ _ 2 start_bias _ _ 2 _ l rfl rfl]

theorem params_4 (l : Fin 128) : params g s bp u (ix2 (4 : Fin 8) l) = u (ix1 l) := by
  unfold params
  rw [line_hit _ _ 4 (start_row 4#32 4 (by decide)) _ _ 4 l l rfl rfl]

end

/-! ## Parts and blocks -/

theorem part_at {M N P Q k : ℕ} (X : FVec Ideal ⟨2, ![M, N]⟩ .f32) (h) (r : Fin P) (l : Fin Q) (hr : k + r.val < M) (hl : l.val < N) :
    (part (F := Ideal) (s := ⟨2, ![M, N]⟩) (e := .f32) ![k, 0] ![P, Q] h X (ix2 r l) : EReal)
      = X (ix2 (⟨k + r.val, hr⟩ : Fin M) (⟨l.val, hl⟩ : Fin N)) := by
  unfold part
  congr 1
  funext a
  apply Fin.ext
  match a with
  | ⟨0, _⟩ => show k + 1 * r.val = k + r.val; omega
  | ⟨1, _⟩ => show 0 + 1 * l.val = l.val; omega

variable (m : (ℓ : Loc nD τ sig) → Buf (Elt Ideal) ℓ) (c : Dev nD)

theorem idx0 : ∀ t : Fin cfg0.N, win0_0.index t = ![t.val / 16, 0, 0] :=
  (by decide +kernel : ∀ t : Fin grid0.N, win0_0.index t = ![t.val / 16, 0, 0])
theorem idx1 : ∀ t : Fin cfg0.N, win0_1.index t = ![t.val / 16, t.val % 16, 0] :=
  (by decide +kernel : ∀ t : Fin grid0.N, win0_1.index t = ![t.val / 16, t.val % 16, 0])
theorem idx2 : ∀ t : Fin cfg0.N, win0_2.index t = ![t.val / 16, 0, 0] :=
  (by decide +kernel : ∀ t : Fin grid0.N, win0_2.index t = ![t.val / 16, 0, 0])
theorem idx3 : ∀ t : Fin cfg0.N, win0_3.index t = ![0, 0] :=
  (by decide +kernel : ∀ t : Fin grid0.N, win0_3.index t = ![0, 0])
theorem idx4 : ∀ t : Fin cfg0.N, win0_4.index t = ![0, 0] :=
  (by decide +kernel : ∀ t : Fin grid0.N, win0_4.index t = ![0, 0])
theorem idx5 : ∀ t : Fin cfg0.N, win0_5.index t = ![0, 0] :=
  (by decide +kernel : ∀ t : Fin grid0.N, win0_5.index t = ![0, 0])

theorem iblk3_at (t : Fin cfg0.N) (r : Fin 128) (l : Fin 16) : iblk m c 3 t (ix2 r l) = V0 m c main_v4 (ix2 r l) := by
  unfold iblk
  blk_simp
  show V0 m c main_v4 _ = _
  congr 1
  funext a
  apply Fin.ext
  match a with
  | ⟨0, _⟩ => blk_simp [idx3]
  | ⟨1, _⟩ => blk_simp [idx3]

theorem iblk4_at (t : Fin cfg0.N) (r : Fin 1312) (l : Fin 128) : iblk m c 4 t (ix2 r l) = V0 m c main_v34 (ix2 r l) := by
  unfold iblk
  blk_simp
  show V0 m c main_v34 _ = _
  congr 1
  funext a
  apply Fin.ext
  match a with
  | ⟨0, _⟩ => blk_simp [idx4]
  | ⟨1, _⟩ => blk_simp [idx4]

theorem iblk5_at (t : Fin cfg0.N) (r : Fin 8) (l : Fin 128) : iblk m c 5 t (ix2 r l) = V0 m c main_v19 (ix2 r l) := by
  unfold iblk
  blk_simp
  show V0 m c main_v19 _ = _
  congr 1
  funext a
  apply Fin.ext
  match a with
  | ⟨0, _⟩ => blk_simp [idx5]
  | ⟨1, _⟩ => blk_simp [idx5]

theorem pt_div (b : Fin 2) (q : Fin 16) : (pt b q).val / 16 = b.val := by
  show (16 * b.val + q.val) / 16 = b.val
  omega

theorem pt_mod (b : Fin 2) (q : Fin 16) : (pt b q).val % 16 = q.val := by
  show (16 * b.val + q.val) % 16 = q.val
  omega

theorem iblk0_at (b : Fin 2) (q : Fin 16) (r : Fin 128) (l : Fin 336) :
    iblk m c 0 (pt b q) (ix3 (0 : Fin 1) r l) = V0 m c main_v35 (ix3 b r l) := by
  unfold iblk
  blk_simp
  show V0 m c main_v35 _ = _
  congr 1
  funext a
  apply Fin.ext
  match a with
  | ⟨0, _⟩ => blk_simp [idx0]; rw [pt_div]; rfl
  | ⟨1, _⟩ => blk_simp [idx0]
  | ⟨2, _⟩ => blk_simp [idx0]

theorem iblk2_at (b : Fin 2) (q : Fin 16) (r : Fin 42) (l : Fin 1024) :
    iblk m c 2 (pt b q) (ix3 (0 : Fin 1) r l) = V0 m c main_v1 (ix3 b r l) := by
  unfold iblk
  blk_simp
  show V0 m c main_v1 _ = _
  congr 1
  funext a
  apply Fin.ext
  match a with
  | ⟨0, _⟩ => blk_simp [idx2]; rw [pt_div]; rfl
  | ⟨1, _⟩ => blk_simp [idx2]
  | ⟨2, _⟩ => blk_simp [idx2]

theorem iblk1_at (b : Fin 2) (q : Fin 16) (r : Fin 64) (l : Fin 42) :
    iblk m c 1 (pt b q) (ix3 (0 : Fin 1) r l) = V0 m c main_v0 (ix3 b (⟨64 * q.val + r.val, by omega⟩ : Fin 1024) l) := by
  unfold iblk
  blk_simp
  show V0 m c main_v0 _ = _
  congr 1
  funext a
  apply Fin.ext
  match a with
  | ⟨0, _⟩ => blk_simp [idx1]; rw [pt_div]; rfl
  | ⟨1, _⟩ => blk_simp [idx1]; rw [pt_mod]; show q.val * 64 + r.val = 64 * q.val + r.val; omega
  | ⟨2, _⟩ => blk_simp [idx1]

/-- The second coordinate of a grid point. -/
theorem coord_at (b : Fin 2) (q : Fin 16) : (grid0.coords (pt b q) 1).val = q.val := by
  have h : ∀ t : Fin grid0.N, (grid0.coords t 1).val = t.val % 16 := by decide +kernel
  exact (h (pt b q)).trans (pt_mod b q)

end Cert.Edge
end
-- ==== Proof.Pick.lean ====
/- The kernel's neighbour numbers at an index: the rounds of the search take, in each row, the repeated least of the row. -/
module

public import proofs.«01_k».proof.Proof.Body
public import proofs.«01_k».proof.Proof.Sel
public import Idealize.ShloMosaic.Lib.Pointwise
public import Idealize.ShloMosaic.Lib.SortNet.Extract
public import Idealize.ShloMosaic.Lib.Pipeline.Value

@[expose] public section
set_option maxRecDepth 16384
noncomputable section
namespace Cert.Edge
open Idealize.ShloMosaic Idealize.ShloMosaic.TcCoe Cert.KernelIdeal

/-- The reference point for removed places is the top. -/
theorem far_top : (Named.named κ "far" 0x7149F2CA#32 : Ideal .f32) = (⊤ : EReal) := rfl

theorem ofBits_inf : Ideal.ofBits FTy.f32 2139095040#32 = ⊤ := by simp [Ideal.ofBits, Ideal.ieee]

/-- The least of a family that has a first least place. -/
theorem fold_min_low {n : ℕ} (f : Fin n → EReal) (l : Fin n) (h : IsLow f l) :
    Finset.fold min ⊤ f Finset.univ = f l := by
  apply le_antisymm
  · exact (Finset.fold_min_le _).mpr (Or.inr ⟨l, Finset.mem_univ _, le_refl _⟩)
  · exact (Finset.le_fold_min _).mpr ⟨le_top, fun p _ => h.1 p⟩

theorem toInt_lane (p : ℕ) (hp : p ≤ 1024) : (BitVec.ofNat 32 p).toInt = (p : ℤ) := by
  rw [BitVec.toInt_eq_toNat_of_lt] <;> simp [BitVec.toNat_ofNat] <;> omega

/-- A round's choice is the first least place of the row. -/
theorem pick_low (d : FVec Ideal S8x1024 .f32) (r : Fin 8) (l : Fin 1024) (h : IsLow (fun p : Fin 1024 => (d (ix2 r p) : EReal)) l) :
    pick d (ix2 r (0 : Fin 1)) = BitVec.ofNat 32 l.val := by
  pointwise [pick, lanes]
  rw [ofBits_inf, fold_min_low (fun p : Fin 1024 => (d (ix2 r p) : EReal)) l h]
  apply BitVec.eq_of_toInt_eq
  rw [← Finset.fold_hom (op' := min) (m := BitVec.toInt) (fun x y => SortNet.toInt_minsi x y)]
  have hl := toInt_lane l.val (by omega)
  rw [hl]
  apply le_antisymm
  · refine (Finset.fold_min_le _).mpr (Or.inr ⟨l, Finset.mem_univ _, ?_⟩)
    rw [if_pos rfl, hl]
  · refine (Finset.le_fold_min _).mpr ⟨?_, fun p _ => ?_⟩
    · have e : ((2147483647#32 : BitVec 32).toInt : ℤ) = 2147483647 := by decide
      refine le_trans (b := 2147483647) (by omega) (le_of_eq e.symm)
    · by_cases e : d (ix2 r p) = d (ix2 r l)
      · rw [if_pos e, toInt_lane p.val (by omega)]
        have : l.val ≤ p.val := h.2 p e
        exact_mod_cast this
      · rw [if_neg e]
        refine le_trans (b := 1024) (by omega) (le_of_eq ?_)
        decide

/-- A row of the slice. -/
def row (d : FVec Ideal S8x1024 .f32) (r : Fin 8) : Fin 1024 → EReal := fun p => d (ix2 r p)

theorem pick_apply (d : FVec Ideal S8x1024 .f32) (r : Fin 8) : pick d (ix2 r (0 : Fin 1)) = BitVec.ofNat 32 (low (row d r)).val :=
  pick_low d r _ (low_spec (row d r))

theorem drop_apply (d : FVec Ideal S8x1024 .f32) (r : Fin 8) (p : Fin 1024) :
    drop d (ix2 r p) = if p = low (row d r) then (⊤ : EReal) else d (ix2 r p) := by
  pointwise [drop, lanes]
  rw [pick_apply, far_top]
  by_cases h : p = low (row d r)
  · rw [if_pos h, h]
    simp [Scalar.select, IntOp.cmpi]
  · rw [if_neg h]
    have : BitVec.ofNat 32 p.val ≠ BitVec.ofNat 32 (low (row d r)).val := by
      intro e
      apply h
      have := congrArg BitVec.toNat e
      simp only [BitVec.toNat_ofNat] at this
      apply Fin.ext
      omega
    simp [Scalar.select, IntOp.cmpi, beq_eq_false_iff_ne.mpr this]

theorem after_row (d : FVec Ideal S8x1024 .f32) (r : Fin 8) (n : ℕ) : row (after d n) r = left (row d r) n := by
  induction n with
  | zero => rfl
  | succ n ih =>
    funext p
    show drop (after d n) (ix2 r p) = _
    rw [drop_apply, ih]
    show _ = if p = low (left (row d r) n) then ⊤ else left (row d r) n p
    rw [← ih]
    rfl

theorem cols_apply (d : FVec Ideal S8x1024 .f32) (r : Fin 8) (n : Fin 48) :
    cols d (ix2 r n) = BitVec.ofNat 32 (sel (row d r) n).val := by
  have h : cols d (ix2 r n) = pick (after d n) (ix2 r (0 : Fin 1)) := by
    unfold cols
    refine (concatenate_ofFn_unit_apply (t := S8x48) 1 (fun n : Fin 48 => pick (after d n)) _ rfl rfl (ix2 r n) n rfl
      (ix2 r (0 : Fin 1)) ?_)
    intro b hb
    fin_cases b
    · rfl
    · exact absurd rfl hb
  rw [h, pick_apply, after_row]
  rfl

/-- The neighbour numbers: row `r` takes the repeated least of row `r` of the distances. -/
theorem picks_apply (v : FVec Ideal S64x1024 .f32) (r : Fin 64) (k : Fin 48) :
    picks v (ix2 r k) = BitVec.ofNat 32 (sel (fun p : Fin 1024 => (v (ix2 r p) : EReal)) k).val := by
  have hrow : ∀ (o : Fin 2 → ℕ) (h : S64x1024.Slices o S8x1024) (q : Fin 8), r.val = o 0 + q.val → o 1 = 0 →
      row (extractStridedSlice S8x1024 o v h) q = fun p : Fin 1024 => (v (ix2 r p) : EReal) := by
    intro o h q e e1
    funext p
    show v _ = v _
    congr 1
    funext a
    apply Fin.ext
    fin_cases a
    · exact e.symm
    · show o 1 + p.val = p.val; omega
  pointwise [picks]
  split
  · rw [cols_apply, hrow _ _ _ (by show r.val = 0 + r.val; omega) rfl]
  split
  · rw [cols_apply, hrow _ _ _ (by show r.val = 8 + (r.val - 8); omega) rfl]
  split
  · rw [cols_apply, hrow _ _ _ (by show r.val = 16 + (r.val - 8 - 8); omega) rfl]
  split
  · rw [cols_apply, hrow _ _ _ (by show r.val = 24 + (r.val - 8 - 8 - 8); omega) rfl]
  split
  · rw [cols_apply, hrow _ _ _ (by show r.val = 32 + (r.val - 8 - 8 - 8 - 8); omega) rfl]
  split
  · rw [cols_apply, hrow _ _ _ (by show r.val = 40 + (r.val - 8 - 8 - 8 - 8 - 8); omega) rfl]
  split
  · rw [cols_apply, hrow _ _ _ (by show r.val = 48 + (r.val - 8 - 8 - 8 - 8 - 8 - 8); omega) rfl]
  · rw [cols_apply, hrow _ _ _ (by show r.val = 56 + (r.val - 8 - 8 - 8 - 8 - 8 - 8 - 8); omega) rfl]

theorem numBlock_apply (p : IVec S64x48 32) (r : Fin 64) (k : Fin 48) :
    numBlock p (ix3 (0 : Fin 1) r (⟨k.val, by omega⟩ : Fin 128)) = p (ix2 r k) := by
  pointwise [numBlock]

end Cert.Edge

end
-- ==== Proof.Atoms.lean ====
/- The kernel's atom table and own rows at an index: the five atoms of each residue. -/
module

public import proofs.«01_k».proof.Proof.FeatA

@[expose] public section
set_option maxRecDepth 16384
noncomputable section
namespace Cert.Edge
open Idealize.ShloMosaic Idealize.ShloMosaic.TcCoe Cert.KernelIdeal Cert.EdgeSpec

variable (X : Fin 2 → Fin 1024 → Fin 4 → Fin 3 → ℝ)

/-- The twelve coordinates of a residue's four atoms, in order. -/
def flat (b : Fin 2) (l : Fin 1024) (n : ℕ) : ℝ := if h : n < 12 then X b l ⟨n / 3, by omega⟩ ⟨n % 3, by omega⟩ else 0

/-- The fifteen coordinates of a residue's five atoms and a zero. -/
def flat5 (b : Fin 2) (l : Fin 1024) (n : ℕ) : ℝ := if h : n < 15 then atom X b l ⟨n / 3, by omega⟩ ⟨n % 3, by omega⟩ else 0

theorem flat5_lt (b : Fin 2) (l : Fin 1024) (n : ℕ) (h : n < 12) : flat5 X b l n = flat X b l n := by
  unfold flat5 flat atom
  rw [dif_pos (by omega), dif_pos h, dif_pos (show n / 3 < 4 by omega)]

theorem flat5_ge (b : Fin 2) (l : Fin 1024) (c : Fin 3) : flat5 X b l (12 + c.val) = fifth X b l c := by
  unfold flat5 atom
  rw [dif_pos (by omega), dif_neg (show ¬(12 + c.val) / 3 < 4 by omega)]
  congr 1
  apply Fin.ext
  show (12 + c.val) % 3 = c.val
  omega

theorem fifth_flat (b : Fin 2) (l : Fin 1024) (c : Fin 3) :
    fifth X b l c = wN * (if c.val < 1 then
        (flat X b l 1 - flat X b l 4) * (flat X b l 8 - flat X b l 5) - (flat X b l 2 - flat X b l 5) * (flat X b l 7 - flat X b l 4)
      else if c.val - 1 < 1 then
        (flat X b l 2 - flat X b l 5) * (flat X b l 6 - flat X b l 3) - (flat X b l 0 - flat X b l 3) * (flat X b l 8 - flat X b l 5)
      else
        (flat X b l 0 - flat X b l 3) * (flat X b l 7 - flat X b l 4) - (flat X b l 1 - flat X b l 4) * (flat X b l 6 - flat X b l 3))
      + wP * (flat X b l c.val - flat X b l (3 + c.val)) + wQ * (flat X b l (6 + c.val) - flat X b l (3 + c.val))
      + flat X b l (3 + c.val) := by
  match c with
  | 0 => rfl
  | 1 => rfl
  | 2 => rfl

/-- Five atoms from a row that holds the four. -/
theorem fiveAtoms_at (x : FVec Ideal S128x42 .f32) (r : Fin 128) (b : Fin 2) (l : Fin 1024)
    (hx : ∀ n (h : n < 42), n < 12 → x (ix2 r ⟨n, h⟩) = ((flat X b l n : ℝ) : EReal)) (c : Fin 16) :
    fiveAtoms x (ix2 r c) = ((flat5 X b l c.val : ℝ) : EReal) := by
  pointwise [fiveAtoms, cross, comp0, comp1, comp2]
  by_cases h : c.val < 12
  · simp only [h, ↓reduceDIte]
    rw [flat5_lt X b l _ h, hx _ _ h]
  · simp only [h, ↓reduceDIte]
    by_cases h2 : c.val - 12 < 3
    · simp only [h2, ↓reduceDIte]
      have h3 : flat5 X b l c.val = fifth X b l ⟨c.val - 12, h2⟩ := by
        rw [← flat5_ge]; congr 1; show c.val = 12 + (c.val - 12); omega
      have hc : c.val = 12 ∨ c.val = 13 ∨ c.val = 14 := by omega
      refine Eq.trans ?_ (congrArg (fun z : ℝ => (z : EReal)) (h3.trans (fifth_flat X b l _)).symm)
      simp only [wN_eq, wP_eq, wQ_eq]
      rcases hc with hc | hc | hc
      all_goals
        simp only [hc, Nat.reduceSub, Nat.reduceAdd, Nat.reduceLT, ↓reduceDIte, ↓reduceIte]
        simp (disch := omega) only [hx]
        simp only [← EReal.coe_sub, ← EReal.coe_mul, ← EReal.coe_add]
    · simp only [h2, ↓reduceDIte]
      unfold flat5
      rw [dif_neg (by omega)]; rfl

/-- The block's own rows. -/
theorem at5_at (x : Vec Ideal S1x64x42 .f32) (r : Fin 64) (b : Fin 2) (l : Fin 1024)
    (hx : ∀ n (h : n < 42), n < 12 → x (ix3 (0 : Fin 1) r ⟨n, h⟩) = ((flat X b l n : ℝ) : EReal)) (c : Fin 16) :
    at5 x (ix2 r c) = ((flat5 X b l c.val : ℝ) : EReal) := by
  pointwise [at5, Gen.k0_pay46, Gen.k0_pay39, Gen.k0_pay42, Gen.k0_pay43, Gen.k0_pay44, Gen.k0_pay45]
  by_cases h : c.val < 12
  · simp only [h, ↓reduceDIte]
    rw [flat5_lt X b l _ h, hx _ _ h]
  · simp only [h, ↓reduceDIte]
    by_cases h2 : c.val - 12 < 3
    · simp only [h2, ↓reduceDIte]
      have h3 : flat5 X b l c.val = fifth X b l ⟨c.val - 12, h2⟩ := by
        rw [← flat5_ge]; congr 1; show c.val = 12 + (c.val - 12); omega
      have hc : c.val = 12 ∨ c.val = 13 ∨ c.val = 14 := by omega
      refine Eq.trans ?_ (congrArg (fun z : ℝ => (z : EReal)) (h3.trans (fifth_flat X b l _)).symm)
      simp only [wN_eq, wP_eq, wQ_eq]
      rcases hc with hc | hc | hc
      all_goals
        simp only [hc, Nat.reduceSub, Nat.reduceAdd, Nat.reduceLT, ↓reduceDIte, ↓reduceIte]
        simp (disch := omega) only [hx]
        simp only [← EReal.coe_sub, ← EReal.coe_mul, ← EReal.coe_add]
    · simp only [h2, ↓reduceDIte]
      unfold flat5
      rw [dif_neg (by omega)]; rfl

/-- The atom table: row `g`, place `16 * j + w`, holds coordinate `w` of residue `8 * g + j`. -/
theorem atomTab_at (x : Vec Ideal S1x128x336 .f32) (b : Fin 2)
    (hx : ∀ (g : Fin 128) (j : Fin 8) n (h : 42 * j.val + n < 336), n < 12 →
      x (ix3 (0 : Fin 1) g ⟨42 * j.val + n, h⟩) = ((flat X b ⟨8 * g.val + j.val, by omega⟩ n : ℝ) : EReal)) (g c : Fin 128) :
    atomTab x (ix2 g c) = ((flat5 X b ⟨8 * g.val + c.val / 16, by omega⟩ (c.val % 16) : ℝ) : EReal) := by
  have key : ∀ (o : ℕ) (hs) (j : Fin 8) (w : Fin 16), o = 42 * j.val → c.val = 16 * j.val + w.val →
      (fiveAtoms (F := Ideal) (extractStridedSlice S128x42 ![0, o] (shapeCast S128x336 x Gen.shapeCasts_S1x128x336_S128x336) hs) (ix2 g w) : EReal)
        = ((flat5 X b ⟨8 * g.val + c.val / 16, by omega⟩ (c.val % 16) : ℝ) : EReal) := by
    intro o hs j w ho hc
    have h1 : (⟨8 * g.val + c.val / 16, by omega⟩ : Fin 1024) = ⟨8 * g.val + j.val, by omega⟩ := by
      apply Fin.ext; show 8 * g.val + c.val / 16 = 8 * g.val + j.val; omega
    rw [h1, show c.val % 16 = w.val by omega]
    refine fiveAtoms_at X _ g b _ (fun n h h' => ?_) w
    rw [← hx g j n (by omega) h']
    subst ho
    pointwise []
  pointwise [atomTab]
  by_cases h0 : c.val < 16
  · rw [dif_pos h0]; exact key _ _ 0 ⟨c.val, by omega⟩ rfl (by simp)
  rw [dif_neg h0]
  by_cases h1 : c.val - 16 < 16
  · rw [dif_pos h1]; exact key _ _ 1 ⟨c.val - 16, by omega⟩ rfl (by show c.val = 16 * 1 + (c.val - 16); omega)
  rw [dif_neg h1]
  by_cases h2 : c.val - 16 - 16 < 16
  · rw [dif_pos h2]; exact key _ _ 2 ⟨c.val - 16 - 16, by omega⟩ rfl (by show c.val = 16 * 2 + (c.val - 16 - 16); omega)
  rw [dif_neg h2]
  by_cases h3 : c.val - 16 - 16 - 16 < 16
  · rw [dif_pos h3]
    exact key _ _ 3 ⟨c.val - 16 - 16 - 16, by omega⟩ rfl (by show c.val = 16 * 3 + (c.val - 16 - 16 - 16); omega)
  rw [dif_neg h3]
  by_cases h4 : c.val - 16 - 16 - 16 - 16 < 16
  · rw [dif_pos h4]
    exact key _ _ 4 ⟨c.val - 16 - 16 - 16 - 16, by omega⟩ rfl (by show c.val = 16 * 4 + (c.val - 16 - 16 - 16 - 16); omega)
  rw [dif_neg h4]
  by_cases h5 : c.val - 16 - 16 - 16 - 16 - 16 < 16
  · rw [dif_pos h5]
    exact key _ _ 5 ⟨c.val - 16 - 16 - 16 - 16 - 16, by omega⟩ rfl
      (by show c.val = 16 * 5 + (c.val - 16 - 16 - 16 - 16 - 16); omega)
  rw [dif_neg h5]
  by_cases h6 : c.val - 16 - 16 - 16 - 16 - 16 - 16 < 16
  · rw [dif_pos h6]
    exact key _ _ 6 ⟨c.val - 16 - 16 - 16 - 16 - 16 - 16, by omega⟩ rfl
      (by show c.val = 16 * 6 + (c.val - 16 - 16 - 16 - 16 - 16 - 16); omega)
  rw [dif_neg h6]
  exact key _ _ 7 ⟨c.val - 16 - 16 - 16 - 16 - 16 - 16 - 16, by omega⟩ rfl
    (by show c.val = 16 * 7 + (c.val - 16 - 16 - 16 - 16 - 16 - 16 - 16); omega)

end Cert.Edge
end
-- ==== Proof.Whole.lean ====
/- One block of the kernel: its neighbours and its features as expressions of the arguments. -/
module

public import proofs.«01_k».proof.Proof.HostAt
public import proofs.«01_k».proof.Proof.Pick
public import proofs.«01_k».proof.Proof.Atoms

@[expose] public section
set_option maxRecDepth 16384
noncomputable section
namespace Cert.Edge
open Idealize.ShloMosaic Idealize.ShloMosaic.TcCoe Cert.KernelIdeal Cert.KernelIdeal.Gen Idealize.SL.Sem Cert.EdgeSpec

variable (X : Fin 2 → Fin 1024 → Fin 4 → Fin 3 → ℝ) (b : Fin 2) (q : Fin 16)
  (x1 : Vec Ideal S1x64x42 .f32) (x2 : Vec Ideal S1x42x1024 .f32)

/-- The residue of row `r` of block `q`. -/
def own (q : Fin 16) (r : Fin 64) : Fin 1024 := ⟨64 * q.val + r.val, by omega⟩

theorem lt64 (r : Fin 3072) : r.val / 48 < 64 := by omega

theorem lt1024 (g c : Fin 128) : 8 * g.val + c.val / 16 < 1024 := by omega

section
variable (h1 : ∀ (r : Fin 64) n (h : n < 42), n < 12 → x1 (ix3 (0 : Fin 1) r ⟨n, h⟩) = ((flat X b (own q r) n : ℝ) : EReal))
  (h2 : ∀ (p : Fin 1024) n (h : n < 42), n < 12 → x2 (ix3 (0 : Fin 1) ⟨n, h⟩ p) = ((flat X b p n : ℝ) : EReal))

include h1 h2 in
/-- The distances of the block's residues to all residues. -/
theorem dist_at (r : Fin 64) (p : Fin 1024) :
    Gen.k0_pay47 (F := Ideal) (Gen.k0_pay39 x1) (Gen.k0_pay40 x2) (ix2 r p) = ((far X b (own q r) p : ℝ) : EReal) := by
  pointwise [Gen.k0_pay47, Gen.k0_pay39, Gen.k0_pay40]
  have a3 := h1 r 3 (by decide) (by decide)
  have a4 := h1 r 4 (by decide) (by decide)
  have a5 := h1 r 5 (by decide) (by decide)
  have c3 := h2 p 3 (by decide) (by decide)
  have c4 := h2 p 4 (by decide) (by decide)
  have c5 := h2 p 5 (by decide) (by decide)
  erw [a3, a4, a5, c3, c4, c5, eps_eq]
  simp only [← EReal.coe_sub, ← EReal.coe_mul, ← EReal.coe_add]
  have e : (flat X b (own q r) 3 - flat X b p 3) * (flat X b (own q r) 3 - flat X b p 3)
      + (flat X b (own q r) 4 - flat X b p 4) * (flat X b (own q r) 4 - flat X b p 4)
      + (flat X b (own q r) 5 - flat X b p 5) * (flat X b (own q r) 5 - flat X b p 5) + eps
      = (∑ c : Fin 3, (X b (own q r) 1 c - X b p 1 c) * (X b (own q r) 1 c - X b p 1 c)) + eps := by
    rw [Fin.sum_univ_three]
    rfl
  rw [e]
  exact sqrt_coe (far_nonneg X b (own q r) p)

include h1 h2 in
/-- The picked neighbours of the block's residues. -/
theorem nums_at (r : Fin 64) (k : Fin 48) :
    nums x1 x2 (ix2 r k) = BitVec.ofNat 32 (near X b (own q r) k.val).val := by
  unfold nums
  rw [picks_apply]
  have e : (fun p : Fin 1024 => (Gen.k0_pay47 (F := Ideal) (Gen.k0_pay39 x1) (Gen.k0_pay40 x2) (ix2 r p) : EReal))
      = fun p => ((far X b (own q r) p : ℝ) : EReal) := funext fun p => dist_at X b q x1 x2 h1 h2 r p
  rw [e]
  rfl

end

/-- Coordinate `d` of atom `i` in the list of fifteen. -/
theorem flat5_at (l : Fin 1024) (i d n : ℕ) (hi : i < 5) (hd : d < 3) (hn : n = 3 * i + d) :
    flat5 X b l n = atom X b l ⟨i, hi⟩ ⟨d, hd⟩ := by
  subst hn
  unfold flat5
  rw [dif_pos (by omega)]
  have e1 : (⟨(3 * i + d) / 3, by omega⟩ : Fin 5) = ⟨i, hi⟩ := Fin.ext (by show (3 * i + d) / 3 = i; omega)
  have e2 : (⟨(3 * i + d) % 3, by omega⟩ : Fin 3) = ⟨d, hd⟩ := Fin.ext (by show (3 * i + d) % 3 = d; omega)
  rw [← e1, ← e2]

/-- The difference at place `c`: own atom `c / 15`, neighbour's atom `c / 3 % 5`, coordinate `c % 3`. -/
def diff (l e : Fin 1024) (c : Fin 128) : ℝ :=
  (if c.val < 75 then flat5 X b l (3 * (c.val / 15) + c.val % 3) else 0)
    - (if c.val < 75 then flat5 X b e (3 * (c.val / 3 % 5) + c.val % 3) else 0)

/-- The distance the kernel holds at place `n`. -/
def pairs (l e : Fin 1024) (n : ℕ) : ℝ :=
  Real.sqrt ((if h : n < 25 then ∑ d : Fin 3, diff X b l e ⟨3 * n + d.val, by omega⟩ * diff X b l e ⟨3 * n + d.val, by omega⟩ else 0) + eps)

theorem pairs_gap (l : Fin 1024) (k n : ℕ) (h : n < 25) :
    pairs X b l (near X b l k) n = gap X b l k ⟨n / 5, by omega⟩ ⟨n % 5, by omega⟩ := by
  unfold pairs gap
  rw [dif_pos h]
  congr 2
  refine Finset.sum_congr rfl fun d _ => ?_
  have e : diff X b l (near X b l k) ⟨3 * n + d.val, by omega⟩
      = atom X b l ⟨n / 5, by omega⟩ d - atom X b (near X b l k) ⟨n % 5, by omega⟩ d := by
    unfold diff
    rw [if_pos (show 3 * n + d.val < 75 by omega), if_pos (show 3 * n + d.val < 75 by omega),
      flat5_at X b l (n / 5) d.val _ (by omega) d.isLt (by show 3 * ((3 * n + d.val) / 15) + (3 * n + d.val) % 3 = _; omega),
      flat5_at X b (near X b l k) (n % 5) d.val _ (by omega) d.isLt (by show 3 * ((3 * n + d.val) / 3 % 5) + (3 * n + d.val) % 3 = _; omega)]
  rw [e]

variable (Wp : Fin 66 → Fin 16 → ℝ) (bp : Fin 16 → ℝ) (We : Fin 416 → Fin 128 → ℝ)

/-- The term of radial function `n` of an edge in the features. -/
def term (l : Fin 1024) (k : ℕ) (o : Fin 128) (q : Fin 400) : ℝ :=
  Real.exp (-((gap X b l k ⟨q.val / 80, by omega⟩ ⟨q.val / 16 % 5, by omega⟩ - mu ⟨q.val % 16, by omega⟩) * (4 / 5)
        * ((gap X b l k ⟨q.val / 80, by omega⟩ ⟨q.val / 16 % 5, by omega⟩ - mu ⟨q.val % 16, by omega⟩) * (4 / 5))))
        * We ⟨16 + q.val, by omega⟩ o

theorem feat_eq (l : Fin 1024) (k : ℕ) (o : Fin 128) : feat X Wp bp We b l k o
    = (∑ p : Fin 16, (Wp (step l (near X b l k)) p + bp p) * We ⟨p.val, by omega⟩ o) + ∑ n, term X b We l k o n := rfl

/-- What one group adds is the sum of its terms. -/
theorem group_eq (l : Fin 1024) (k : ℕ) (o : Fin 128) (g : ℕ) (hg : g < 4) (c : Fin 128) :
    Real.exp (-(((if 8 * g + c.val / 16 < 25 then pairs X b l (near X b l k) (8 * g + c.val / 16) else 0) * (4 / 5) - mu ⟨c.val % 16, by omega⟩ * (4 / 5))
        * ((if 8 * g + c.val / 16 < 25 then pairs X b l (near X b l k) (8 * g + c.val / 16) else 0) * (4 / 5) - mu ⟨c.val % 16, by omega⟩ * (4 / 5))))
      * (if h : 128 * g + c.val < 400 then We ⟨16 + (128 * g + c.val), by omega⟩ o else 0)
      = if h : 128 * g + c.val < 400 then term X b We l k o ⟨128 * g + c.val, h⟩ else 0 := by
  by_cases h : 128 * g + c.val < 400
  · rw [dif_pos h, dif_pos h, if_pos (show 8 * g + c.val / 16 < 25 by omega), pairs_gap X b l k _ (show 8 * g + c.val / 16 < 25 by omega)]
    unfold term
    have e1 : (⟨(128 * g + c.val) / 80, by omega⟩ : Fin 5) = ⟨(8 * g + c.val / 16) / 5, by omega⟩ :=
      Fin.ext (by show (128 * g + c.val) / 80 = (8 * g + c.val / 16) / 5; omega)
    have e2 : (⟨(128 * g + c.val) / 16 % 5, by omega⟩ : Fin 5) = ⟨(8 * g + c.val / 16) % 5, by omega⟩ :=
      Fin.ext (by show (128 * g + c.val) / 16 % 5 = (8 * g + c.val / 16) % 5; omega)
    have e3 : (⟨(128 * g + c.val) % 16, by omega⟩ : Fin 16) = ⟨c.val % 16, by omega⟩ :=
      Fin.ext (by show (128 * g + c.val) % 16 = c.val % 16; omega)
    show _ = Real.exp (-((gap X b l k (⟨(128 * g + c.val) / 80, by omega⟩ : Fin 5) (⟨(128 * g + c.val) / 16 % 5, by omega⟩ : Fin 5) - mu (⟨(128 * g + c.val) % 16, by omega⟩ : Fin 16)) * (4 / 5)
        * ((gap X b l k (⟨(128 * g + c.val) / 80, by omega⟩ : Fin 5) (⟨(128 * g + c.val) / 16 % 5, by omega⟩ : Fin 5) - mu (⟨(128 * g + c.val) % 16, by omega⟩ : Fin 16)) * (4 / 5)))) * _
    rw [e1, e2, e3]
    congr 3
    ring
  · rw [dif_neg h, dif_neg h, mul_zero]

variable (x3 : Vec Ideal S128x16 .f32) (x4 : Vec Ideal S1312x128 .f32) (x5 : Vec Ideal S8x128 .f32) (tab : Vec Ideal S128x128 .f32)
variable (u : FVec Ideal S66x16 .f32) (f : FVec Ideal S16 .f32) (w : FVec Ideal S416x128 .f32) (gm bt : FVec Ideal S128 .f32)
  (v : FVec Ideal S16 .f32)

section
variable (h1 : ∀ (r : Fin 64) n (h : n < 42), n < 12 → x1 (ix3 (0 : Fin 1) r ⟨n, h⟩) = ((flat X b (own q r) n : ℝ) : EReal))
  (h2 : ∀ (p : Fin 1024) n (h : n < 42), n < 12 → x2 (ix3 (0 : Fin 1) ⟨n, h⟩ p) = ((flat X b p n : ℝ) : EReal))
  (ht : ∀ g c : Fin 128, tab (ix2 g c) = ((flat5 X b ⟨8 * g.val + c.val / 16, lt1024 g c⟩ (c.val % 16) : ℝ) : EReal))
  (h3 : x3 = wposTab u) (h4 : x4 = tables w) (h5 : x5 = params gm bt f (eight v))
  (hP : ∀ i p, u (ix2 i p) = ((Wp i p : ℝ) : EReal)) (hB : ∀ p, f (ix1 p) = ((bp p : ℝ) : EReal))
  (hE : ∀ i o, w (ix2 i o) = ((We i o : ℝ) : EReal)) (hv : ∀ p, v (ix1 p) = ((mu p : ℝ) : EReal))

set_option maxHeartbeats 4000000 in
include h1 h2 ht h3 h4 h5 hP hB hE hv in
/-- The features of the edge in row `r`, before the normalisation. -/
theorem feats_at (r : Fin 3072) (o : Fin 128) :
    feats (Scalar.muli (BitVec.ofNat 32 q.val) 64#32) x1 (nums x1 x2) tab
      (part (s := S1312x128) ![128, 0] S128x128.size (by decide) x4) (part (s := S1312x128) ![0, 0] S128x128.size (by decide) x4)
      (part (s := S1312x128) ![256, 0] S128x128.size (by decide) x4) (part (s := S1312x128) ![384, 0] S128x128.size (by decide) x4)
      (part (s := S1312x128) ![512, 0] S128x128.size (by decide) x4) (part (s := S1312x128) ![640, 0] S128x128.size (by decide) x4)
      (part (s := S1312x128) ![784, 0] S128x128.size (by decide) x4) (part (s := S1312x128) ![912, 0] S128x128.size (by decide) x4)
      (part (s := S1312x128) ![1040, 0] S128x128.size (by decide) x4) (part (s := S1312x128) ![1168, 0] S128x128.size (by decide) x4)
      (part (s := S1312x128) ![768, 0] S16x128.size (by decide) x4) (part (s := S1312x128) ![1296, 0] S16x128.size (by decide) x4)
      x3 (part (s := S8x128) ![2, 0] S1x16.size (by decide) x5) (part (s := S8x128) ![4, 0] S1x128.size (by decide) x5) (ix2 r o)
      = ((feat X Wp bp We b (own q ⟨r.val / 48, lt64 r⟩) (r.val % 48) o : ℝ) : EReal) := by
  subst h3 h4 h5
  have hn : nbr (F := Ideal) (nums x1 x2) (ix2 r (0 : Fin 1))
      = BitVec.ofNat 32 (near X b (own q ⟨r.val / 48, lt64 r⟩) (r.val % 48)).val := nbr_at (nums x1 x2) (fun r k => (near X b (own q r) k.val).val) (fun r k => by omega)
    (fun r k => nums_at X b q x1 x2 h1 h2 r k) r
  generalize hl : own q ⟨r.val / 48, lt64 r⟩ = l at hn ⊢
  generalize hk : r.val % 48 = k at hn ⊢
  have hown : ∀ c, ownAtoms (at5 x1) (part (s := S1312x128) ![768, 0] S16x128.size (by decide) (tables w)) (ix2 r c) = _ :=
    fun c => ownAtoms_at (at5 x1) _ (fun r n => flat5 X b (own q r) n)
      (fun r k => at5_at X x1 r b (own q r) (h1 r) k)
      (fun k c => (part_at (tables w) _ k c (by omega) (by omega)).trans (tables_own w k c _)) r c
  have hnb : ∀ c, nbrAtoms tab (nbr (F := Ideal) (nums x1 x2)) (part (s := S1312x128) ![128, 0] S128x128.size (by decide) (tables w)) (ix2 r c) = _ :=
    fun c => nbrAtoms_at tab _ (fun l n => flat5 X b l n) _ ht
      (fun k c => (part_at (tables w) _ k c (by omega) (by omega)).trans (tables_nbr w k c _)) r (near X b l k) hn c
  have hdist : ∀ c, pairDist (subf (ownAtoms (at5 x1) (part (s := S1312x128) ![768, 0] S16x128.size (by decide) (tables w)))
      (nbrAtoms tab (nbr (F := Ideal) (nums x1 x2)) (part (s := S1312x128) ![128, 0] S128x128.size (by decide) (tables w))))
      (part (s := S1312x128) ![0, 0] S128x128.size (by decide) (tables w)) (ix2 r c) = ((pairs X b l (near X b l k) c.val : ℝ) : EReal) :=
    fun c => pairDist_at _ _ r (diff X b l (near X b l k)) (fun c => by
      show ownAtoms _ _ (ix2 r c) - nbrAtoms _ _ _ (ix2 r c) = _
      rw [hown, hnb, ← EReal.coe_sub, hl]
      rfl)
      (fun k c => (part_at (tables w) _ k c (by omega) (by omega)).trans (tables_sum w k c _)) c
  have hmu : ∀ c : Fin 128, (part (F := Ideal) (s := S8x128) (e := .f32) ![4, 0] S1x128.size (by decide) (params gm bt f (eight v)) (ix2 (0 : Fin 1) c) : EReal)
      = ((mu ⟨c.val % 16, by omega⟩ : ℝ) : EReal) := fun c =>
    (part_at (params gm bt f (eight v)) _ (0 : Fin 1) c (by decide) c.isLt).trans
      ((params_4 gm bt f (eight v) c).trans ((eight_at v c).trans (hv _)))
  have hbias : ∀ c : Fin 16, (part (F := Ideal) (s := S8x128) (e := .f32) ![2, 0] S1x16.size (by decide) (params gm bt f (eight v)) (ix2 (0 : Fin 1) c) : EReal)
      = ((bp c : ℝ) : EReal) := fun c =>
    (part_at (params gm bt f (eight v)) _ (0 : Fin 1) c (by decide) (by omega)).trans
      ((params_2 gm bt f (eight v) c).trans (hB _))
  have hpos := posPart_at (offs (Scalar.muli (BitVec.ofNat 32 q.val) 64#32) (nbr (F := Ideal) (nums x1 x2)))
    (part (s := S1312x128) ![1296, 0] S16x128.size (by decide) (tables w)) (wposTab u)
    (part (s := S8x128) ![2, 0] S1x16.size (by decide) (params gm bt f (eight v)))
    (fun k o => We ⟨k.val, by omega⟩ o) (fun n p => if h : n.val < 66 then Wp ⟨n.val, h⟩ p else 0) bp
    (fun k c => (part_at (tables w) _ k c (by omega) (by omega)).trans ((tables_w16 w k c _).trans (hE _ _)))
    (fun n p => by
      rw [wposTab_at]
      by_cases h : n.val < 66
      · rw [dif_pos h, dif_pos h, hP]
      · rw [dif_neg h, dif_neg h, EReal.coe_zero])
    hbias r ⟨(step l (near X b l k)).val, by omega⟩ (by
      exact (offs_at q _ r (near X b l k) hn).trans (by rw [← hl]; rfl)) o
  have next : ∀ (acc : FVec Ideal S3072x128 .f32) (EG WG : Vec Ideal S128x128 .f32) (g : ℕ) (a : ℝ) (hg : g < 4)
      (_ : ∀ (k c : Fin 128), EG (ix2 k c) = ((ind (k.val = 8 * g + c.val / 16 ∧ k.val < 25) : ℝ) : EReal))
      (_ : ∀ (k c : Fin 128), WG (ix2 k c) = if h : 128 * g + k.val < 400 then w (ix2 (⟨16 + (128 * g + k.val), by omega⟩ : Fin 416) c) else 0)
      (_ : acc (ix2 r o) = ((a : ℝ) : EReal)),
      addGroup acc (pairDist (subf (ownAtoms (at5 x1) (part (s := S1312x128) ![768, 0] S16x128.size (by decide) (tables w)))
        (nbrAtoms tab (nbr (F := Ideal) (nums x1 x2)) (part (s := S1312x128) ![128, 0] S128x128.size (by decide) (tables w))))
        (part (s := S1312x128) ![0, 0] S128x128.size (by decide) (tables w)))
        (part (s := S8x128) ![4, 0] S1x128.size (by decide) (params gm bt f (eight v))) EG WG (ix2 r o)
        = ((a + ∑ c : Fin 128, (if h : 128 * g + c.val < 400 then term X b We l k o ⟨128 * g + c.val, h⟩ else 0) : ℝ) : EReal) := by
    intro acc EG WG g a hg hEG hWG hacc
    rw [addGroup_at acc _ _ EG WG g r (pairs X b l (near X b l k)) (fun c => mu ⟨c.val % 16, by omega⟩)
      (fun c o => if h : 128 * g + c.val < 400 then We ⟨16 + (128 * g + c.val), by omega⟩ o else 0) o a hacc hdist hmu hg hEG
      (fun c o => by
        rw [hWG]
        by_cases h : 128 * g + c.val < 400
        · rw [dif_pos h, dif_pos h, hE]
        · rw [dif_neg h, dif_neg h, EReal.coe_zero])]
    congr 2
    exact Finset.sum_congr rfl fun c _ => group_eq X b We l k o g hg c
  unfold feats
  dsimp only
  have g0 := next _ (part (s := S1312x128) ![256, 0] S128x128.size (by decide) (tables w)) (part (s := S1312x128) ![784, 0] S128x128.size (by decide) (tables w)) 0 _ (by decide)
    (fun k c => (part_at (tables w) _ k c (by omega) (by omega)).trans (tables_rep w 0 (by decide) k c (by omega)))
    (fun k c => (part_at (tables w) _ k c (by omega) (by omega)).trans (tables_wgs w 0 (by decide) k c (by omega))) hpos
  have g1 := next _ (part (s := S1312x128) ![384, 0] S128x128.size (by decide) (tables w)) (part (s := S1312x128) ![912, 0] S128x128.size (by decide) (tables w)) 1 _ (by decide)
    (fun k c => (part_at (tables w) _ k c (by omega) (by omega)).trans (tables_rep w 1 (by decide) k c (by omega)))
    (fun k c => (part_at (tables w) _ k c (by omega) (by omega)).trans (tables_wgs w 1 (by decide) k c (by omega))) g0
  have g2 := next _ (part (s := S1312x128) ![512, 0] S128x128.size (by decide) (tables w)) (part (s := S1312x128) ![1040, 0] S128x128.size (by decide) (tables w)) 2 _ (by decide)
    (fun k c => (part_at (tables w) _ k c (by omega) (by omega)).trans (tables_rep w 2 (by decide) k c (by omega)))
    (fun k c => (part_at (tables w) _ k c (by omega) (by omega)).trans (tables_wgs w 2 (by decide) k c (by omega))) g1
  have g3 := next _ (part (s := S1312x128) ![640, 0] S128x128.size (by decide) (tables w)) (part (s := S1312x128) ![1168, 0] S128x128.size (by decide) (tables w)) 3 _ (by decide)
    (fun k c => (part_at (tables w) _ k c (by omega) (by omega)).trans (tables_rep w 3 (by decide) k c (by omega)))
    (fun k c => (part_at (tables w) _ k c (by omega) (by omega)).trans (tables_wgs w 3 (by decide) k c (by omega))) g2
  refine g3.trans ?_
  congr 1
  rw [feat_eq, sum_groups, Fin.sum_univ_four, ← add_assoc, ← add_assoc, ← add_assoc]
  congr 4
  refine Finset.sum_congr rfl fun p _ => ?_
  rw [dif_pos (step l (near X b l k)).isLt]

include h1 h2 ht h3 h4 h5 hP hB hE hv in
/-- The features of the edge in row `r`. -/
theorem featOf_at (r : Fin 3072) (o : Fin 128) :
    featOf (Scalar.muli (BitVec.ofNat 32 q.val) 64#32) x1 x2 x3 x4 x5 tab (ix3 (0 : Fin 1) r o)
      = normed (fun n => ((feat X Wp bp We b (own q ⟨r.val / 48, lt64 r⟩) (r.val % 48) n : ℝ) : EReal)) (gm (ix1 o)) (bt (ix1 o)) o := by
  unfold featOf
  rw [norm_at]
  have e : (fun n => feats (Scalar.muli (BitVec.ofNat 32 q.val) 64#32) x1 (nums x1 x2) tab
      (part (s := S1312x128) ![128, 0] S128x128.size (by decide) x4) (part (s := S1312x128) ![0, 0] S128x128.size (by decide) x4)
      (part (s := S1312x128) ![256, 0] S128x128.size (by decide) x4) (part (s := S1312x128) ![384, 0] S128x128.size (by decide) x4)
      (part (s := S1312x128) ![512, 0] S128x128.size (by decide) x4) (part (s := S1312x128) ![640, 0] S128x128.size (by decide) x4)
      (part (s := S1312x128) ![784, 0] S128x128.size (by decide) x4) (part (s := S1312x128) ![912, 0] S128x128.size (by decide) x4)
      (part (s := S1312x128) ![1040, 0] S128x128.size (by decide) x4) (part (s := S1312x128) ![1168, 0] S128x128.size (by decide) x4)
      (part (s := S1312x128) ![768, 0] S16x128.size (by decide) x4) (part (s := S1312x128) ![1296, 0] S16x128.size (by decide) x4)
      x3 (part (s := S8x128) ![2, 0] S1x16.size (by decide) x5) (part (s := S8x128) ![4, 0] S1x128.size (by decide) x5) (ix2 r n))
      = fun n => ((feat X Wp bp We b (own q ⟨r.val / 48, lt64 r⟩) (r.val % 48) n : ℝ) : EReal) :=
    funext fun n => feats_at X b q x1 x2 Wp bp We x3 x4 x5 tab u f w gm bt v h1 h2 ht h3 h4 h5 hP hB hE hv r n
  rw [e]
  subst h5
  have hg : (part (F := Ideal) (s := S8x128) (e := .f32) ![0, 0] S1x128.size (by decide) (params gm bt f (eight v)) (ix2 (0 : Fin 1) o) : EReal) = gm (ix1 o) :=
    (part_at (params gm bt f (eight v)) _ (0 : Fin 1) o (by decide) o.isLt).trans (params_0 gm bt f (eight v) o)
  have hb : (part (F := Ideal) (s := S8x128) (e := .f32) ![1, 0] S1x128.size (by decide) (params gm bt f (eight v)) (ix2 (0 : Fin 1) o) : EReal) = bt (ix1 o) :=
    (part_at (params gm bt f (eight v)) _ (0 : Fin 1) o (by decide) o.isLt).trans (params_1 gm bt f (eight v) o)
  rw [hg, hb]

end
end Cert.Edge
end
-- ==== Proof.Gather.lean ====
/- The reference's gathers and its search, each read at an index. -/
module

public import proofs.«01_k».proof.Proof.Gen.ReferenceIdeal.Read
public import proofs.«01_k».proof.Proof.Sel
public import Idealize.ShloMosaic.Lib.Pointwise

@[expose] public section
set_option maxRecDepth 16384
noncomputable section
namespace Cert.EdgeRef
open Idealize.ShloMosaic Idealize.ShloMosaic.TcCoe Cert.ReferenceIdeal Cert.ReferenceIdeal.Gen Cert.ReferenceIdeal.Read Cert.Edge

/-- A row of the atom table, by its number kept in range. -/
theorem gather_look {α : Type} (x : S21x4.Idx → α) (i : IVec S2x1024x1 32) (b : Fin 2) (l : Fin 1024) (k : Fin 4) :
    Host.gather gather_S21x4_S2x1024x1_S2x1024x4_2_0_n_n_0_2_14 x i (ix3 b l k)
      = x (ix2 (⟨min (i (ix3 b l (0 : Fin 1))).toInt.toNat 20, by omega⟩ : Fin 21) k) := by
  have hi : gather_S21x4_S2x1024x1_S2x1024x4_2_0_n_n_0_2_14.siIdx (ix3 b l k) ⟨0, by decide⟩ = ix3 b l (0 : Fin 1) := by
    funext q
    apply Fin.ext
    match q with
    | ⟨0, _⟩ => rfl
    | ⟨1, _⟩ => rfl
    | ⟨2, _⟩ => rfl
  show x _ = x _
  congr 1
  funext a
  apply Fin.ext
  match a with
  | ⟨0, _⟩ =>
    show gather_S21x4_S2x1024x1_S2x1024x4_2_0_n_n_0_2_14.start (ix3 b l k) i 0 + gather_S21x4_S2x1024x1_S2x1024x4_2_0_n_n_0_2_14.batchCoord (ix3 b l k) 0 + gather_S21x4_S2x1024x1_S2x1024x4_2_0_n_n_0_2_14.offCoord (ix3 b l k) 0 = _
    rw [GatherDims.batchCoord_eq_zero _ _ _ (by decide), GatherDims.offCoord_eq_zero _ _ _ (by decide)]
    show min (i (gather_S21x4_S2x1024x1_S2x1024x4_2_0_n_n_0_2_14.siIdx (ix3 b l k) ⟨0, by decide⟩)).toInt.toNat 20 + 0 + 0 = min (i (ix3 b l (0 : Fin 1))).toInt.toNat 20
    rw [hi]
    omega
  | ⟨1, _⟩ =>
    show gather_S21x4_S2x1024x1_S2x1024x4_2_0_n_n_0_2_14.start (ix3 b l k) i 1 + gather_S21x4_S2x1024x1_S2x1024x4_2_0_n_n_0_2_14.batchCoord (ix3 b l k) 1 + gather_S21x4_S2x1024x1_S2x1024x4_2_0_n_n_0_2_14.offCoord (ix3 b l k) 1 = _
    rw [show gather_S21x4_S2x1024x1_S2x1024x4_2_0_n_n_0_2_14.start (ix3 b l k) i 1 = 0 from rfl, GatherDims.batchCoord_eq_zero _ _ _ (by decide)]
    rw [show gather_S21x4_S2x1024x1_S2x1024x4_2_0_n_n_0_2_14.offCoord (ix3 b l k) 1 = k.val from rfl]
    show 0 + 0 + k.val = k.val
    omega

/-- A point of an atom, by the number of the atom kept in range. -/
theorem gather_atom {α : Type} (x : S2x1024x14x3.Idx → α) (i : IVec S2x1024x4x1 32) (b : Fin 2) (l : Fin 1024) (k : Fin 4) (c : Fin 3) :
    Host.gather gather_S2x1024x14x3_S2x1024x4x1_S2x1024x4x3_3_2_01_01_2_3_1113 x i (ix4 b l k c)
      = x (ix4 b l (⟨min (i (ix4 b l k (0 : Fin 1))).toInt.toNat 13, by omega⟩ : Fin 14) c) := by
  have hi : gather_S2x1024x14x3_S2x1024x4x1_S2x1024x4x3_3_2_01_01_2_3_1113.siIdx (ix4 b l k c) ⟨0, by decide⟩ = ix4 b l k (0 : Fin 1) := by
    funext q
    apply Fin.ext
    match q with
    | ⟨0, _⟩ => rfl
    | ⟨1, _⟩ => rfl
    | ⟨2, _⟩ => rfl
    | ⟨3, _⟩ => rfl
  show x _ = x _
  congr 1
  funext a
  apply Fin.ext
  match a with
  | ⟨0, _⟩ =>
    show gather_S2x1024x14x3_S2x1024x4x1_S2x1024x4x3_3_2_01_01_2_3_1113.start (ix4 b l k c) i 0 + gather_S2x1024x14x3_S2x1024x4x1_S2x1024x4x3_3_2_01_01_2_3_1113.batchCoord (ix4 b l k c) 0 + gather_S2x1024x14x3_S2x1024x4x1_S2x1024x4x3_3_2_01_01_2_3_1113.offCoord (ix4 b l k c) 0 = _
    rw [GatherDims.start_batching _ _ _ _ (by decide), GatherDims.offCoord_eq_zero _ _ _ (by decide)]
    rw [show gather_S2x1024x14x3_S2x1024x4x1_S2x1024x4x3_3_2_01_01_2_3_1113.batchCoord (ix4 b l k c) 0 = b.val from rfl]
    show 0 + b.val + 0 = b.val
    omega
  | ⟨1, _⟩ =>
    show gather_S2x1024x14x3_S2x1024x4x1_S2x1024x4x3_3_2_01_01_2_3_1113.start (ix4 b l k c) i 1 + gather_S2x1024x14x3_S2x1024x4x1_S2x1024x4x3_3_2_01_01_2_3_1113.batchCoord (ix4 b l k c) 1 + gather_S2x1024x14x3_S2x1024x4x1_S2x1024x4x3_3_2_01_01_2_3_1113.offCoord (ix4 b l k c) 1 = _
    rw [GatherDims.start_batching _ _ _ _ (by decide), GatherDims.offCoord_eq_zero _ _ _ (by decide)]
    rw [show gather_S2x1024x14x3_S2x1024x4x1_S2x1024x4x3_3_2_01_01_2_3_1113.batchCoord (ix4 b l k c) 1 = l.val from rfl]
    show 0 + l.val + 0 = l.val
    omega
  | ⟨2, _⟩ =>
    show gather_S2x1024x14x3_S2x1024x4x1_S2x1024x4x3_3_2_01_01_2_3_1113.start (ix4 b l k c) i 2 + gather_S2x1024x14x3_S2x1024x4x1_S2x1024x4x3_3_2_01_01_2_3_1113.batchCoord (ix4 b l k c) 2 + gather_S2x1024x14x3_S2x1024x4x1_S2x1024x4x3_3_2_01_01_2_3_1113.offCoord (ix4 b l k c) 2 = _
    rw [GatherDims.batchCoord_eq_zero _ _ _ (by decide), GatherDims.offCoord_eq_zero _ _ _ (by decide)]
    show min (i (gather_S2x1024x14x3_S2x1024x4x1_S2x1024x4x3_3_2_01_01_2_3_1113.siIdx (ix4 b l k c) ⟨0, by decide⟩)).toInt.toNat 13 + 0 + 0 = min (i (ix4 b l k (0 : Fin 1))).toInt.toNat 13
    rw [hi]
    omega
  | ⟨3, _⟩ =>
    show gather_S2x1024x14x3_S2x1024x4x1_S2x1024x4x3_3_2_01_01_2_3_1113.start (ix4 b l k c) i 3 + gather_S2x1024x14x3_S2x1024x4x1_S2x1024x4x3_3_2_01_01_2_3_1113.batchCoord (ix4 b l k c) 3 + gather_S2x1024x14x3_S2x1024x4x1_S2x1024x4x3_3_2_01_01_2_3_1113.offCoord (ix4 b l k c) 3 = _
    rw [show gather_S2x1024x14x3_S2x1024x4x1_S2x1024x4x3_3_2_01_01_2_3_1113.start (ix4 b l k c) i 3 = 0 from rfl, GatherDims.batchCoord_eq_zero _ _ _ (by decide)]
    rw [show gather_S2x1024x14x3_S2x1024x4x1_S2x1024x4x3_3_2_01_01_2_3_1113.offCoord (ix4 b l k c) 3 = c.val from rfl]
    show 0 + 0 + c.val = c.val
    omega

/-- The mask of an atom, by the number of the atom kept in range. -/
theorem gather_mask {α : Type} (x : S2x1024x14.Idx → α) (i : IVec S2x1024x4x1 32) (b : Fin 2) (l : Fin 1024) (k : Fin 4) :
    Host.gather gather_S2x1024x14_S2x1024x4x1_S2x1024x4_n_2_01_01_2_3_111 x i (ix3 b l k)
      = x (ix3 b l (⟨min (i (ix4 b l k (0 : Fin 1))).toInt.toNat 13, by omega⟩ : Fin 14)) := by
  have hi : gather_S2x1024x14_S2x1024x4x1_S2x1024x4_n_2_01_01_2_3_111.siIdx (ix3 b l k) ⟨0, by decide⟩ = ix4 b l k (0 : Fin 1) := by
    funext q
    apply Fin.ext
    match q with
    | ⟨0, _⟩ => rfl
    | ⟨1, _⟩ => rfl
    | ⟨2, _⟩ => rfl
    | ⟨3, _⟩ => rfl
  show x _ = x _
  congr 1
  funext a
  apply Fin.ext
  match a with
  | ⟨0, _⟩ =>
    show gather_S2x1024x14_S2x1024x4x1_S2x1024x4_n_2_01_01_2_3_111.start (ix3 b l k) i 0 + gather_S2x1024x14_S2x1024x4x1_S2x1024x4_n_2_01_01_2_3_111.batchCoord (ix3 b l k) 0 + gather_S2x1024x14_S2x1024x4x1_S2x1024x4_n_2_01_01_2_3_111.offCoord (ix3 b l k) 0 = _
    rw [GatherDims.start_batching _ _ _ _ (by decide), GatherDims.offCoord_eq_zero _ _ _ (by decide)]
    rw [show gather_S2x1024x14_S2x1024x4x1_S2x1024x4_n_2_01_01_2_3_111.batchCoord (ix3 b l k) 0 = b.val from rfl]
    show 0 + b.val + 0 = b.val
    omega
  | ⟨1, _⟩ =>
    show gather_S2x1024x14_S2x1024x4x1_S2x1024x4_n_2_01_01_2_3_111.start (ix3 b l k) i 1 + gather_S2x1024x14_S2x1024x4x1_S2x1024x4_n_2_01_01_2_3_111.batchCoord (ix3 b l k) 1 + gather_S2x1024x14_S2x1024x4x1_S2x1024x4_n_2_01_01_2_3_111.offCoord (ix3 b l k) 1 = _
    rw [GatherDims.start_batching _ _ _ _ (by decide), GatherDims.offCoord_eq_zero _ _ _ (by decide)]
    rw [show gather_S2x1024x14_S2x1024x4x1_S2x1024x4_n_2_01_01_2_3_111.batchCoord (ix3 b l k) 1 = l.val from rfl]
    show 0 + l.val + 0 = l.val
    omega
  | ⟨2, _⟩ =>
    show gather_S2x1024x14_S2x1024x4x1_S2x1024x4_n_2_01_01_2_3_111.start (ix3 b l k) i 2 + gather_S2x1024x14_S2x1024x4x1_S2x1024x4_n_2_01_01_2_3_111.batchCoord (ix3 b l k) 2 + gather_S2x1024x14_S2x1024x4x1_S2x1024x4_n_2_01_01_2_3_111.offCoord (ix3 b l k) 2 = _
    rw [GatherDims.batchCoord_eq_zero _ _ _ (by decide), GatherDims.offCoord_eq_zero _ _ _ (by decide)]
    show min (i (gather_S2x1024x14_S2x1024x4x1_S2x1024x4_n_2_01_01_2_3_111.siIdx (ix3 b l k) ⟨0, by decide⟩)).toInt.toNat 13 + 0 + 0 = min (i (ix4 b l k (0 : Fin 1))).toInt.toNat 13
    rw [hi]
    omega

/-- The atoms of a neighbour, by its number kept in range. -/
theorem gather_near {α : Type} (x : S2x1024x5x3.Idx → α) (i : IVec S2x1024x48x1 32) (b : Fin 2) (l : Fin 1024) (k : Fin 48) (j : Fin 5) (c : Fin 3) :
    Host.gather gather_S2x1024x5x3_S2x1024x48x1_S2x1024x48x5x3_34_1_0_0_1_3_1153 x i (ix5 b l k j c)
      = x (ix4 b (⟨min (i (ix4 b l k (0 : Fin 1))).toInt.toNat 1023, by omega⟩ : Fin 1024) j c) := by
  have hi : gather_S2x1024x5x3_S2x1024x48x1_S2x1024x48x5x3_34_1_0_0_1_3_1153.siIdx (ix5 b l k j c) ⟨0, by decide⟩ = ix4 b l k (0 : Fin 1) := by
    funext q
    apply Fin.ext
    match q with
    | ⟨0, _⟩ => rfl
    | ⟨1, _⟩ => rfl
    | ⟨2, _⟩ => rfl
    | ⟨3, _⟩ => rfl
  show x _ = x _
  congr 1
  funext a
  apply Fin.ext
  match a with
  | ⟨0, _⟩ =>
    show gather_S2x1024x5x3_S2x1024x48x1_S2x1024x48x5x3_34_1_0_0_1_3_1153.start (ix5 b l k j c) i 0 + gather_S2x1024x5x3_S2x1024x48x1_S2x1024x48x5x3_34_1_0_0_1_3_1153.batchCoord (ix5 b l k j c) 0 + gather_S2x1024x5x3_S2x1024x48x1_S2x1024x48x5x3_34_1_0_0_1_3_1153.offCoord (ix5 b l k j c) 0 = _
    rw [GatherDims.start_batching _ _ _ _ (by decide), GatherDims.offCoord_eq_zero _ _ _ (by decide)]
    rw [show gather_S2x1024x5x3_S2x1024x48x1_S2x1024x48x5x3_34_1_0_0_1_3_1153.batchCoord (ix5 b l k j c) 0 = b.val from rfl]
    show 0 + b.val + 0 = b.val
    omega
  | ⟨1, _⟩ =>
    show gather_S2x1024x5x3_S2x1024x48x1_S2x1024x48x5x3_34_1_0_0_1_3_1153.start (ix5 b l k j c) i 1 + gather_S2x1024x5x3_S2x1024x48x1_S2x1024x48x5x3_34_1_0_0_1_3_1153.batchCoord (ix5 b l k j c) 1 + gather_S2x1024x5x3_S2x1024x48x1_S2x1024x48x5x3_34_1_0_0_1_3_1153.offCoord (ix5 b l k j c) 1 = _
    rw [GatherDims.batchCoord_eq_zero _ _ _ (by decide), GatherDims.offCoord_eq_zero _ _ _ (by decide)]
    show min (i (gather_S2x1024x5x3_S2x1024x48x1_S2x1024x48x5x3_34_1_0_0_1_3_1153.siIdx (ix5 b l k j c) ⟨0, by decide⟩)).toInt.toNat 1023 + 0 + 0 = min (i (ix4 b l k (0 : Fin 1))).toInt.toNat 1023
    rw [hi]
    omega
  | ⟨2, _⟩ =>
    show gather_S2x1024x5x3_S2x1024x48x1_S2x1024x48x5x3_34_1_0_0_1_3_1153.start (ix5 b l k j c) i 2 + gather_S2x1024x5x3_S2x1024x48x1_S2x1024x48x5x3_34_1_0_0_1_3_1153.batchCoord (ix5 b l k j c) 2 + gather_S2x1024x5x3_S2x1024x48x1_S2x1024x48x5x3_34_1_0_0_1_3_1153.offCoord (ix5 b l k j c) 2 = _
    rw [show gather_S2x1024x5x3_S2x1024x48x1_S2x1024x48x5x3_34_1_0_0_1_3_1153.start (ix5 b l k j c) i 2 = 0 from rfl, GatherDims.batchCoord_eq_zero _ _ _ (by decide)]
    rw [show gather_S2x1024x5x3_S2x1024x48x1_S2x1024x48x5x3_34_1_0_0_1_3_1153.offCoord (ix5 b l k j c) 2 = j.val from rfl]
    show 0 + 0 + j.val = j.val
    omega
  | ⟨3, _⟩ =>
    show gather_S2x1024x5x3_S2x1024x48x1_S2x1024x48x5x3_34_1_0_0_1_3_1153.start (ix5 b l k j c) i 3 + gather_S2x1024x5x3_S2x1024x48x1_S2x1024x48x5x3_34_1_0_0_1_3_1153.batchCoord (ix5 b l k j c) 3 + gather_S2x1024x5x3_S2x1024x48x1_S2x1024x48x5x3_34_1_0_0_1_3_1153.offCoord (ix5 b l k j c) 3 = _
    rw [show gather_S2x1024x5x3_S2x1024x48x1_S2x1024x48x5x3_34_1_0_0_1_3_1153.start (ix5 b l k j c) i 3 = 0 from rfl, GatherDims.batchCoord_eq_zero _ _ _ (by decide)]
    rw [show gather_S2x1024x5x3_S2x1024x48x1_S2x1024x48x5x3_34_1_0_0_1_3_1153.offCoord (ix5 b l k j c) 3 = c.val from rfl]
    show 0 + 0 + c.val = c.val
    omega

/-- An entry of a table of pairs, by the number of the neighbour kept in range. -/
theorem gather_pair {α : Type} (x : S2x1024x1024.Idx → α) (i : IVec S2x1024x48x1 32) (b : Fin 2) (l : Fin 1024) (k : Fin 48) :
    Host.gather gather_S2x1024x1024_S2x1024x48x1_S2x1024x48_n_2_01_01_2_3_111 x i (ix3 b l k)
      = x (ix3 b l (⟨min (i (ix4 b l k (0 : Fin 1))).toInt.toNat 1023, by omega⟩ : Fin 1024)) := by
  have hi : gather_S2x1024x1024_S2x1024x48x1_S2x1024x48_n_2_01_01_2_3_111.siIdx (ix3 b l k) ⟨0, by decide⟩ = ix4 b l k (0 : Fin 1) := by
    funext q
    apply Fin.ext
    match q with
    | ⟨0, _⟩ => rfl
    | ⟨1, _⟩ => rfl
    | ⟨2, _⟩ => rfl
    | ⟨3, _⟩ => rfl
  show x _ = x _
  congr 1
  funext a
  apply Fin.ext
  match a with
  | ⟨0, _⟩ =>
    show gather_S2x1024x1024_S2x1024x48x1_S2x1024x48_n_2_01_01_2_3_111.start (ix3 b l k) i 0 + gather_S2x1024x1024_S2x1024x48x1_S2x1024x48_n_2_01_01_2_3_111.batchCoord (ix3 b l k) 0 + gather_S2x1024x1024_S2x1024x48x1_S2x1024x48_n_2_01_01_2_3_111.offCoord (ix3 b l k) 0 = _
    rw [GatherDims.start_batching _ _ _ _ (by decide), GatherDims.offCoord_eq_zero _ _ _ (by decide)]
    rw [show gather_S2x1024x1024_S2x1024x48x1_S2x1024x48_n_2_01_01_2_3_111.batchCoord (ix3 b l k) 0 = b.val from rfl]
    show 0 + b.val + 0 = b.val
    omega
  | ⟨1, _⟩ =>
    show gather_S2x1024x1024_S2x1024x48x1_S2x1024x48_n_2_01_01_2_3_111.start (ix3 b l k) i 1 + gather_S2x1024x1024_S2x1024x48x1_S2x1024x48_n_2_01_01_2_3_111.batchCoord (ix3 b l k) 1 + gather_S2x1024x1024_S2x1024x48x1_S2x1024x48_n_2_01_01_2_3_111.offCoord (ix3 b l k) 1 = _
    rw [GatherDims.start_batching _ _ _ _ (by decide), GatherDims.offCoord_eq_zero _ _ _ (by decide)]
    rw [show gather_S2x1024x1024_S2x1024x48x1_S2x1024x48_n_2_01_01_2_3_111.batchCoord (ix3 b l k) 1 = l.val from rfl]
    show 0 + l.val + 0 = l.val
    omega
  | ⟨2, _⟩ =>
    show gather_S2x1024x1024_S2x1024x48x1_S2x1024x48_n_2_01_01_2_3_111.start (ix3 b l k) i 2 + gather_S2x1024x1024_S2x1024x48x1_S2x1024x48_n_2_01_01_2_3_111.batchCoord (ix3 b l k) 2 + gather_S2x1024x1024_S2x1024x48x1_S2x1024x48_n_2_01_01_2_3_111.offCoord (ix3 b l k) 2 = _
    rw [GatherDims.batchCoord_eq_zero _ _ _ (by decide), GatherDims.offCoord_eq_zero _ _ _ (by decide)]
    show min (i (gather_S2x1024x1024_S2x1024x48x1_S2x1024x48_n_2_01_01_2_3_111.siIdx (ix3 b l k) ⟨0, by decide⟩)).toInt.toNat 1023 + 0 + 0 = min (i (ix4 b l k (0 : Fin 1))).toInt.toNat 1023
    rw [hi]
    omega

theorem sort2_snd (s : Shape) (d : ℕ) (hd : d < s.rank) {α β : Type} (cmp : α × β → α × β → BitVec 1) (x : s.Idx → α) (y : s.Idx → β)
    (j : s.Idx) : (Host.sort2 s d cmp x y).2 j = y (j.along ⟨d, hd⟩ (sortedFrom (fun k k' =>
      cmp (x (j.along ⟨d, hd⟩ k), y (j.along ⟨d, hd⟩ k)) (x (j.along ⟨d, hd⟩ k'), y (j.along ⟨d, hd⟩ k')) == 1#1) (j ⟨d, hd⟩))) := by
  unfold Host.sort2
  rw [dif_pos hd]

/-- The search for the greatest of a row takes the repeated least of the negated row. -/
theorem top_apply (x : FVec Ideal S2x1024x1024 .f32) (f : Fin 1024 → EReal) (b : Fin 2) (l : Fin 1024) (k : Fin 48)
    (hx : ∀ p : Fin 1024, x (ix3 b l p) = -f p) (hf : ∀ p, f p < ⊤) :
    (Host.topK S2x1024x48 2 (FloatOps.cmpfTotal (F := Ideal) .gt) x sliceFits_S2x1024x1024_S2x1024x48).2 (ix3 b l k)
      = BitVec.ofNat 32 (sel f k).val := by
  have hal : ∀ p : Fin 1024, (ix3 b l (k.castLE (show 48 ≤ 1024 by decide)) : S2x1024x1024.Idx).along 2 p = ix3 b l p := by
    intro p
    funext a
    match a with
    | ⟨0, _⟩ => rfl
    | ⟨1, _⟩ => rfl
    | ⟨2, _⟩ => rfl
  unfold Host.topK
  dsimp only
  refine (extractStridedSlice_apply _ _ _ (ix3 b l k) (ix3 b l (k.castLE (show 48 ≤ 1024 by decide))) (fun a => ?_)).trans ?_
  · match a with
    | ⟨0, _⟩ => exact (Nat.zero_add _).symm
    | ⟨1, _⟩ => exact (Nat.zero_add _).symm
    | ⟨2, _⟩ => exact (Nat.zero_add _).symm
  have hc : (fun p p' : Fin 1024 => FloatOps.cmpfTotal (F := Ideal) (φ := .f32) .gt
      (x ((ix3 b l (k.castLE (show 48 ≤ 1024 by decide)) : S2x1024x1024.Idx).along 2 p))
      (x ((ix3 b l (k.castLE (show 48 ≤ 1024 by decide)) : S2x1024x1024.Idx).along 2 p')) == 1#1) = byVal f := by
    funext p p'
    rw [hal, hal, hx, hx]
    show (BitVec.ofBool (decide (-f p' < -f p)) == 1#1) = decide (f p < f p')
    by_cases h : f p < f p' <;> simp [EReal.neg_lt_neg_iff, h]
  have hs : sortedFrom (fun p p' : Fin 1024 => FloatOps.cmpfTotal (F := Ideal) (φ := .f32) .gt
      (x ((ix3 b l (k.castLE (show 48 ≤ 1024 by decide)) : S2x1024x1024.Idx).along 2 p))
      (x ((ix3 b l (k.castLE (show 48 ≤ 1024 by decide)) : S2x1024x1024.Idx).along 2 p')) == 1#1)
      (k.castLE (show 48 ≤ 1024 by decide)) = sel f k := by
    rw [hc]
    exact sortedFrom_eq_sel f hf (show 48 ≤ 1024 by decide) k
  rw [sort2_snd _ _ (by decide)]
  refine (dif_pos (by decide)).trans ?_
  refine (congrArg (fun q => iotaInDim S2x1024x1024 32 2 ((ix3 b l (k.castLE (show 48 ≤ 1024 by decide)) : S2x1024x1024.Idx).along 2 q)) hs).trans ?_
  rw [hal]
  rfl

end Cert.EdgeRef

end
-- ==== Proof.RefA.lean ====
/- The reference's atoms, distances and neighbour numbers as the mathematics. -/
module

public import proofs.«01_k».proof.Proof.Gather
public import proofs.«01_k».proof.Proof.Spec

@[expose] public section
set_option maxRecDepth 16384
noncomputable section
namespace Cert.EdgeRef
open Idealize.ShloMosaic Idealize.ShloMosaic.TcCoe Cert.ReferenceIdeal Cert.ReferenceIdeal.Gen Cert.ReferenceIdeal.Read Cert.Edge Cert.EdgeSpec

variable (x0 : FVec Ideal S2x1024x14x3 .f32) (x1 : FVec Ideal S2x1024x14 .f32) (x2 : IVec S2x1024 32)

theorem lt14 (k : Fin 4) : k.val < 14 := by omega

theorem v4_at (b : Fin 2) (l : Fin 1024) (k : Fin 4) : val_main_v4 (F := Ideal) x2 (ix3 b l k) = BitVec.ofNat 32 k.val := by
  unfold val_main_v4
  rw [gather_look]
  pointwise [val_main_v2, val_main_v1, val_main_v0]

theorem lane_nat (k n : ℕ) (hk : k ≤ n) (hn : n < 2000) : min (BitVec.ofNat 32 k).toInt.toNat n = k := by
  have : (BitVec.ofNat 32 k).toInt = (k : ℤ) := by
    rw [BitVec.toInt_eq_toNat_of_lt] <;> simp [BitVec.toNat_ofNat] <;> omega
  rw [this]
  omega

theorem v6_at (b : Fin 2) (l : Fin 1024) (k : Fin 4) (c : Fin 3) :
    val_main_v6 (F := Ideal) x0 x2 (ix4 b l k c) = x0 (ix4 b l (⟨k.val, lt14 k⟩ : Fin 14) c) := by
  unfold val_main_v6
  rw [gather_atom]
  congr 2
  apply Fin.ext
  show min (val_main_v5 (F := Ideal) x2 (ix4 b l k (0 : Fin 1))).toInt.toNat 13 = k.val
  have : val_main_v5 (F := Ideal) x2 (ix4 b l k (0 : Fin 1)) = BitVec.ofNat 32 k.val := by
    rw [← v4_at x2 b l k]
    pointwise [val_main_v5]
  rw [this]
  exact lane_nat _ _ (by omega) (by omega)

theorem v8_at (b : Fin 2) (l : Fin 1024) (k : Fin 4) :
    val_main_v8 (F := Ideal) x1 x2 (ix3 b l k) = x1 (ix3 b l (⟨k.val, lt14 k⟩ : Fin 14)) := by
  unfold val_main_v8
  rw [gather_mask]
  congr 2
  apply Fin.ext
  show min (val_main_v7 (F := Ideal) x2 (ix4 b l k (0 : Fin 1))).toInt.toNat 13 = k.val
  have : val_main_v7 (F := Ideal) x2 (ix4 b l k (0 : Fin 1)) = BitVec.ofNat 32 k.val := by
    rw [← v4_at x2 b l k]
    pointwise [val_main_v7]
  rw [this]
  exact lane_nat _ _ (by omega) (by omega)

variable (X : Fin 2 → Fin 1024 → Fin 4 → Fin 3 → ℝ)
  (hX : ∀ b l (k : Fin 4) c, x0 (ix4 b l (⟨k.val, lt14 k⟩ : Fin 14) c) = ((X b l k c : ℝ) : EReal))
  (hM : ∀ b l, x1 (ix3 b l (1 : Fin 14)) = 1)

include hX in
theorem v6_real (b : Fin 2) (l : Fin 1024) (k : Fin 4) (c : Fin 3) :
    val_main_v6 (F := Ideal) x0 x2 (ix4 b l k c) = ((X b l k c : ℝ) : EReal) := by
  rw [v6_at, hX]

include hX in
theorem v76_at (b : Fin 2) (l p : Fin 1024) : val_main_v76 (F := Ideal) x0 x2 (ix3 b l p) = ((far X b l p : ℝ) : EReal) := by
  pointwise [val_main_v76, val_main_v75, val_main_v74, val_main_v73, val_main_v72, val_main_v71, val_main_v70, val_main_v69, val_main_v68,
     val_main_v67, val_main_cst_2, val_main_cst_3, val_main_v12, val_main_v11]
  simp only [v6_real x0 x2 X hX, eps_eq, ← EReal.coe_sub, ← EReal.coe_mul, coe_sum, ← EReal.coe_add]
  rw [sqrt_coe (far_nonneg X b l p)]
  rfl

include hX hM in
theorem v90_at (b : Fin 2) (l p : Fin 1024) : val_main_v90 (F := Ideal) x0 x1 x2 (ix3 b l p) = -((far X b l p : ℝ) : EReal) := by
  have hm : ∀ l, val_main_v66 (F := Ideal) x1 x2 (ix2 b l) = (1 : EReal) := by
    intro l
    refine Eq.trans ?_ ((v8_at x1 x2 b l 1).trans (hM b l))
    pointwise [val_main_v66, val_main_v65]
  have hm2 : val_main_v81 (F := Ideal) x1 x2 (ix3 b l p) = (1 : EReal) := by
    pointwise [val_main_v81, val_main_v80, val_main_v79, val_main_v78, val_main_v77]
    rw [hm, hm]
    simp
  rw [← v76_at x0 x2 X hX b l p]
  pointwise [val_main_v90, val_main_v89, val_main_v83, val_main_v88, val_main_v85, val_main_v84, val_main_cst_5]
  rw [hm2, show (1 : EReal) - 1 = 0 from by rw [← EReal.coe_one, ← EReal.coe_sub, sub_self, EReal.coe_zero],
    mul_one, zero_mul, add_zero]

include hX hM in
theorem indices_at (b : Fin 2) (l : Fin 1024) (k : Fin 48) :
    val_main_indices (F := Ideal) x0 x1 x2 (ix3 b l k) = BitVec.ofNat 32 (near X b l k).val :=
  top_apply _ (fun p => ((far X b l p : ℝ) : EReal)) b l k (fun p => v90_at x0 x1 x2 X hX hM b l p) (fun p => EReal.coe_lt_top _)

end Cert.EdgeRef

end
-- ==== Proof.RefB.lean ====
/- The reference's features before the normalisation as the mathematics. -/
module

public import proofs.«01_k».proof.Proof.RefA

@[expose] public section
set_option maxRecDepth 16384
noncomputable section
namespace Cert.EdgeRef
open Idealize.ShloMosaic Idealize.ShloMosaic.TcCoe Cert.ReferenceIdeal Cert.ReferenceIdeal.Gen Cert.ReferenceIdeal.Read Cert.Edge Cert.EdgeSpec

variable (x0 : FVec Ideal S2x1024x14x3 .f32) (x1 : FVec Ideal S2x1024x14 .f32) (x2 x3 x4 : IVec S2x1024 32)
  (x5 : FVec Ideal S66x16 .f32) (x6 : FVec Ideal S16 .f32) (x7 : FVec Ideal S416x128 .f32) (x8 x9 : FVec Ideal S128 .f32)
variable (X : Fin 2 → Fin 1024 → Fin 4 → Fin 3 → ℝ)
  (hX : ∀ b l (k : Fin 4) c, x0 (ix4 b l (⟨k.val, lt14 k⟩ : Fin 14) c) = ((X b l k c : ℝ) : EReal))
  (hM : ∀ b l, x1 (ix3 b l (1 : Fin 14)) = 1)

include hX in
/-- The bonds. -/
theorem v15_at (b : Fin 2) (l : Fin 1024) (c : Fin 3) :
    val_main_v15 (F := Ideal) x0 x2 (ix3 b l c) = ((bondP X b l c : ℝ) : EReal) := by
  pointwise [val_main_v15, val_main_v10, val_main_v9, val_main_v12, val_main_v11]
  rw [v6_real x0 x2 X hX, v6_real x0 x2 X hX, ← EReal.coe_sub]
  rfl

include hX in
@[inherit_doc v15_at]
theorem v16_at (b : Fin 2) (l : Fin 1024) (c : Fin 3) :
    val_main_v16 (F := Ideal) x0 x2 (ix3 b l c) = ((bondQ X b l c : ℝ) : EReal) := by
  pointwise [val_main_v16, val_main_v14, val_main_v13, val_main_v12, val_main_v11]
  rw [v6_real x0 x2 X hX, v6_real x0 x2 X hX, ← EReal.coe_sub]
  rfl

include hX in
/-- The fifth atom's offset from the second. -/
theorem v61_at (b : Fin 2) (l : Fin 1024) (c : Fin 3) : val_main_v61 (F := Ideal) x0 x2 (ix3 b l c)
    = ((wN * normal X b l c + wP * bondP X b l c + wQ * bondQ X b l c : ℝ) : EReal) := by
  pointwise [val_main_v61, val_main_v60, val_main_v59, val_main_v58, val_main_v57, val_main_v56, val_main_v55,
    val_main_v54, val_main_v53, val_main_v52, val_main_v51, val_main_v50, val_main_v49, val_main_v48, val_main_v47,
    val_main_v46, val_main_v45, val_main_v44, val_main_v43, val_main_v42, val_main_v41, val_main_v40, val_main_v39,
    val_main_v38, val_main_v37, val_main_v36, val_main_v35, val_main_v34, val_main_v33, val_main_v32, val_main_v31,
    val_main_v30, val_main_v29, val_main_v28, val_main_v27, val_main_v26, val_main_v25, val_main_v24, val_main_v23,
    val_main_v22, val_main_v21, val_main_v20, val_main_v19, val_main_v18, val_main_v17, val_main_cst, val_main_cst_0,
    val_main_cst_1]
  simp only [v15_at x0 x2 X hX, v16_at x0 x2 X hX, wN_eq, wP_eq, wQ_eq, ← EReal.coe_sub, ← EReal.coe_mul]
  have hc : c = 0 ∨ c = 1 ∨ c = 2 := by omega
  rcases hc with rfl | rfl | rfl <;>
    simp only [Fin.val_zero, Fin.val_one, Fin.val_two, Nat.reduceLT, Nat.reduceSub, ↓reduceDIte, ← EReal.coe_mul, ← EReal.coe_add] <;>
    rfl

/-- The centres of the radial functions. -/
theorem v103_at (k : Fin 16) : val_main_v103 (F := Ideal) (ix1 k) = ((mu k : ℝ) : EReal) := by
  pointwise [val_main_v103, val_main_call0_v16, val_main_call0_v15, val_main_call0_v14, val_main_call0_v11, val_main_call0_v13,
    val_main_call0_v12, val_main_call0_v10, val_main_call0_v9, val_main_call0_v8, val_main_call0_v7, val_main_call0_v6,
    val_main_call0_v5, val_main_call0_v4, val_main_call0_v1, val_main_call0_v0, val_main_call0_cst_1, val_main_call0_cst_0,
    val_main_cst_9, val_main_cst_10, val_main_cst_8]
  have h2 : (id (constant S_ FTy.f32 1073741824#32) ix0 : Ideal .f32) = ((2 : ℝ) : EReal) := by
    show Ideal.ofBits .f32 1073741824#32 = _
    rw [real_of _ (by decide) (by decide), if_neg (by decide)]
    congr 1
    rw [show ((1073741824#32).extractLsb' 23 8).toNat = 128 by decide, show ((1073741824#32).extractLsb' 0 23).toNat = 0 by decide]
    norm_num
  have h22 : (id (constant S_ FTy.f32 1102053376#32) ix0 : Ideal .f32) = ((22 : ℝ) : EReal) := by
    show Ideal.ofBits .f32 1102053376#32 = _
    rw [real_of _ (by decide) (by decide), if_neg (by decide)]
    congr 1
    rw [show ((1102053376#32).extractLsb' 23 8).toNat = 131 by decide, show ((1102053376#32).extractLsb' 0 23).toNat = 3145728 by decide]
    norm_num
  have h15 : Ideal.ofBits .f32 1097859072#32 = ((15 : ℝ) : EReal) := by
    rw [real_of _ (by decide) (by decide), if_neg (by decide)]
    congr 1
    rw [show ((1097859072#32).extractLsb' 23 8).toNat = 130 by decide, show ((1097859072#32).extractLsb' 0 23).toNat = 7340032 by decide]
    norm_num
  rw [h2, h22, h15]
  by_cases h : k.val < 15
  · rw [dif_pos h]
    have hk : (FloatOps.sitofp FTy.f32 (BitVec.ofNat 32 k.val) : Ideal .f32) = ((k.val : ℝ) : EReal) := by
      show (((BitVec.ofNat 32 k.val).toInt : ℝ) : EReal) = _
      rw [BitVec.toInt_eq_toNat_of_lt (by simp [BitVec.toNat_ofNat]; omega), BitVec.toNat_ofNat, Nat.mod_eq_of_lt (by omega)]
      simp
    rw [hk, Ideal.div_coe (by norm_num), ← EReal.coe_one]
    simp only [← EReal.coe_mul, ← EReal.coe_sub, ← EReal.coe_add]
    congr 1
    unfold mu
    ring
  · rw [dif_neg h]
    congr 1
    unfold mu
    rw [show k.val = 15 by omega]
    norm_num

include hX in
/-- The five atoms. -/
theorem v64_at (b : Fin 2) (l : Fin 1024) (i : Fin 5) (c : Fin 3) :
    val_main_v64 (F := Ideal) x0 x2 (ix4 b l i c) = ((atom X b l i c : ℝ) : EReal) := by
  pointwise [val_main_v64, val_main_v63, val_main_v62, val_main_v12, val_main_v11]
  unfold atom
  by_cases h : i.val < 4
  · rw [dif_pos h, dif_pos h, v6_real x0 x2 X hX]
  · rw [dif_neg h, dif_neg h, v61_at x0 x2 X hX, v6_real x0 x2 X hX, ← EReal.coe_add]
    rfl

include hX hM in
/-- The neighbour number as the gathers read it. -/
theorem near_nat (b : Fin 2) (l : Fin 1024) (k : Fin 48) :
    min ((broadcastInDim S2x1024x48x1 ![0, 1, 2] bcast_S2x1024x48_S2x1024x48x1_0_1_2 (val_main_indices (F := Ideal) x0 x1 x2))
      (ix4 b l k (0 : Fin 1)) : BitVec 32).toInt.toNat 1023 = (near X b l k.val).val := by
  have h : (broadcastInDim S2x1024x48x1 ![0, 1, 2] bcast_S2x1024x48_S2x1024x48x1_0_1_2 (val_main_indices (F := Ideal) x0 x1 x2))
      (ix4 b l k (0 : Fin 1)) = val_main_indices (F := Ideal) x0 x1 x2 (ix3 b l k) := by
    pointwise []
  rw [h, indices_at x0 x1 x2 X hX hM]
  exact lane_nat _ _ (by omega) (by omega)

include hX hM in
/-- The neighbour's atoms. -/
theorem near_at (b : Fin 2) (l : Fin 1024) (k : Fin 48) (j : Fin 5) (c : Fin 3) :
    Host.gather gather_S2x1024x5x3_S2x1024x48x1_S2x1024x48x5x3_34_1_0_0_1_3_1153 (val_main_v64 (F := Ideal) x0 x2)
      (broadcastInDim S2x1024x48x1 ![0, 1, 2] bcast_S2x1024x48_S2x1024x48x1_0_1_2 (val_main_indices (F := Ideal) x0 x1 x2))
      (ix5 b l k j c) = ((atom X b (near X b l k) j c : ℝ) : EReal) := by
  rw [gather_near, v64_at x0 x2 X hX]
  exact congrArg (fun e => ((atom X b e j c : ℝ) : EReal)) (Fin.ext (near_nat x0 x1 x2 X hX hM b l k))

include hX hM in
/-- The squared coordinate differences. -/
theorem v98_at (b : Fin 2) (l : Fin 1024) (k : Fin 48) (i j : Fin 5) (c : Fin 3) :
    val_main_v98 (F := Ideal) x0 x1 x2 (ix6 b l k i j c)
      = (((atom X b l i c - atom X b (near X b l k) j c) * (atom X b l i c - atom X b (near X b l k) j c) : ℝ) : EReal) := by
  pointwise [val_main_v98, val_main_v97, val_main_v96, val_main_v95, val_main_v94, val_main_v93, val_main_v92,
    val_main_v91]
  simp only [near_at x0 x1 x2 X hX hM, v64_at x0 x2 X hX, ← EReal.coe_sub, ← EReal.coe_mul]

theorem reduces5 : S2x1024x48x5x5x3.Reduces [5] S2x1024x48x5x5 := by decide

include hX hM in
/-- The distances. -/
theorem v102_at (b : Fin 2) (l : Fin 1024) (k : Fin 48) (i j : Fin 5) :
    val_main_v102 (F := Ideal) x0 x1 x2 (ix5 b l k i j) = ((gap X b l k i j : ℝ) : EReal) := by
  pointwise [val_main_v102, val_main_v101, val_main_v100, val_main_v99, val_main_cst_6, val_main_cst_7, val_main_cst_8]
  rw [Ideal.hostReduceAdd_single _ reduces5, zero_add]
  have h : ∀ c : Fin 3, val_main_v98 (F := Ideal) x0 x1 x2
      (reduces5.lift (ix5 b l k i j) c)
      = (((atom X b l i c - atom X b (near X b l k) j c) * (atom X b l i c - atom X b (near X b l k) j c) : ℝ) : EReal) := by
    intro c
    rw [← v98_at x0 x1 x2 X hX hM]
    congr 1
    funext a
    apply Fin.ext
    match a with
    | ⟨0, _⟩ => rfl
    | ⟨1, _⟩ => rfl
    | ⟨2, _⟩ => rfl
    | ⟨3, _⟩ => rfl
    | ⟨4, _⟩ => rfl
    | ⟨5, _⟩ => rfl
  have h' : (∑ c : Fin 3, val_main_v98 (F := Ideal) x0 x1 x2 (reduces5.lift (ix5 b l k i j) c))
      = ((∑ c : Fin 3, (atom X b l i c - atom X b (near X b l k) j c) * (atom X b l i c - atom X b (near X b l k) j c) : ℝ) : EReal) := by
    rw [Finset.sum_congr rfl (fun c _ => h c), coe_sum]
  refine (congrArg (fun z => Ideal.sqrt (z + Ideal.ofBits FTy.f32 897988541#32)) h').trans ?_
  rw [eps_eq, ← EReal.coe_add, sqrt_coe (gap_nonneg X b l _ i j)]
  rfl

include hX hM in
/-- The radial functions. -/
theorem v113_at (b : Fin 2) (l : Fin 1024) (k : Fin 48) (i j : Fin 5) (m : Fin 16) :
    val_main_v113 (F := Ideal) x0 x1 x2 (ix6 b l k i j m)
      = ((Real.exp (-((gap X b l k i j - mu m) * (4 / 5) * ((gap X b l k i j - mu m) * (4 / 5)))) : ℝ) : EReal) := by
  pointwise [val_main_v113, val_main_v112, val_main_v111, val_main_v110, val_main_v109, val_main_v108, val_main_v107,
    val_main_v106, val_main_v105, val_main_v104, val_main_cst_11]
  have h : Ideal.ofBits .f32 1067450368#32 = ((5 / 4 : ℝ) : EReal) := by
    rw [real_of _ (by decide) (by decide), if_neg (by decide)]
    congr 1
    rw [show ((1067450368#32).extractLsb' 23 8).toNat = 127 by decide, show ((1067450368#32).extractLsb' 0 23).toNat = 2097152 by decide]
    norm_num
  rw [v102_at x0 x1 x2 X hX hM, v103_at, h, Ideal.div_coe (by norm_num), ← EReal.coe_sub, ← EReal.coe_mul, ← EReal.coe_mul,
    ← EReal.coe_neg]
  show ((Real.exp _ : ℝ) : EReal) = _
  norm_num

variable (hR : ∀ b l, x3 (ix2 b l) - x3 (ix2 b (0 : Fin 1024)) = BitVec.ofNat 32 l.val)
  (hC : ∀ b l, x4 (ix2 b l) = x4 (ix2 b (0 : Fin 1024)))

include hX hM in
/-- A pair array read at each residue and its neighbour. -/
theorem pair_at {α : Type} (y : S2x1024x1024.Idx → α) (b : Fin 2) (l : Fin 1024) (k : Fin 48) :
    Host.gather gather_S2x1024x1024_S2x1024x48x1_S2x1024x48_n_2_01_01_2_3_111 y
      (broadcastInDim S2x1024x48x1 ![0, 1, 2] bcast_S2x1024x48_S2x1024x48x1_0_1_2 (val_main_indices (F := Ideal) x0 x1 x2))
      (ix3 b l k) = y (ix3 b l (near X b l k)) := by
  rw [gather_pair]
  exact congrArg (fun e => y (ix3 b l e)) (Fin.ext (near_nat x0 x1 x2 X hX hM b l k))

include hX hM hR in
/-- The offset along the chain. -/
theorem v121_at (b : Fin 2) (l : Fin 1024) (k : Fin 48) : val_main_v121 (F := Ideal) x0 x1 x2 x3 (ix3 b l k)
    = BitVec.ofNat 32 l.val - BitVec.ofNat 32 (near X b l k).val := by
  pointwise [val_main_v121, val_main_v120]
  rw [pair_at x0 x1 x2 X hX hM]
  pointwise [val_main_v119, val_main_v118, val_main_v117, val_main_v116, val_main_v115]
  rw [← hR b l, ← hR b (near X b l k)]
  apply BitVec.eq_of_toNat_eq
  simp only [IntOp.subi, BitVec.toNat_sub]
  omega

include hX hM hC in
/-- The chains agree. -/
theorem v129_at (b : Fin 2) (l : Fin 1024) (k : Fin 48) : val_main_v129 (F := Ideal) x0 x1 x2 x4 (ix3 b l k) = 1#32 := by
  pointwise [val_main_v129, val_main_v128]
  rw [pair_at x0 x1 x2 X hX hM]
  pointwise [val_main_v127, val_main_v126, val_main_v125, val_main_v124, val_main_v123, val_main_v122]
  rw [hC b l, hC b (near X b l k)]
  show BitVec.setWidth 32 (BitVec.ofBool (_ == _)) = _
  rw [beq_self_eq_true]
  rfl

end Cert.EdgeRef

end
-- ==== Proof.RefC.lean ====
/- The reference's features and their normalisation as the mathematics. -/
module

public import proofs.«01_k».proof.Proof.RefB

@[expose] public section
set_option maxRecDepth 16384
noncomputable section
namespace Cert.EdgeRef
open Idealize.ShloMosaic Idealize.ShloMosaic.TcCoe Cert.ReferenceIdeal Cert.ReferenceIdeal.Gen Cert.ReferenceIdeal.Read Cert.Edge Cert.EdgeSpec

variable (x0 : FVec Ideal S2x1024x14x3 .f32) (x1 : FVec Ideal S2x1024x14 .f32) (x2 x3 x4 : IVec S2x1024 32)
  (x5 : FVec Ideal S66x16 .f32) (x6 : FVec Ideal S16 .f32) (x7 : FVec Ideal S416x128 .f32) (x8 x9 : FVec Ideal S128 .f32)
variable (X : Fin 2 → Fin 1024 → Fin 4 → Fin 3 → ℝ)
  (hX : ∀ b l (k : Fin 4) c, x0 (ix4 b l (⟨k.val, lt14 k⟩ : Fin 14) c) = ((X b l k c : ℝ) : EReal))
  (hM : ∀ b l, x1 (ix3 b l (1 : Fin 14)) = 1)
  (hR : ∀ b l, x3 (ix2 b l) - x3 (ix2 b (0 : Fin 1024)) = BitVec.ofNat 32 l.val)
  (hC : ∀ b l, x4 (ix2 b l) = x4 (ix2 b (0 : Fin 1024)))
variable (Wp : Fin 66 → Fin 16 → ℝ) (bp : Fin 16 → ℝ) (We : Fin 416 → Fin 128 → ℝ)
  (hP : ∀ i p, x5 (ix2 i p) = ((Wp i p : ℝ) : EReal)) (hB : ∀ p, x6 (ix1 p) = ((bp p : ℝ) : EReal))
  (hE : ∀ i o, x7 (ix2 i o) = ((We i o : ℝ) : EReal))

/-- The reference's clip of an offset. -/
def clipR (x : BitVec 32) : BitVec 32 :=
  IntOp.addi (IntOp.muli (IntOp.maxsi (IntOp.minsi x 64#32) 0#32) 1#32) (IntOp.muli (IntOp.subi 1#32 1#32) 65#32)

theorem clipR_up : ∀ a : Fin 1056, clipR (BitVec.ofNat 32 a.val) = BitVec.ofNat 32 (min a.val 64) := by decide +kernel
theorem clipR_down : ∀ a : Fin 1024, clipR (-BitVec.ofNat 32 a.val) = 0#32 := by decide +kernel

/-- The clipped offset of two residue numbers. -/
theorem clipR_step (l e : Fin 1024) :
    clipR (IntOp.addi (BitVec.ofNat 32 l.val - BitVec.ofNat 32 e.val) 32#32) = BitVec.ofNat 32 (step l e).val := by
  show clipR (BitVec.ofNat 32 l.val - BitVec.ofNat 32 e.val + 32#32) = BitVec.ofNat 32 (min (l.val + 32 - e.val) 64)
  by_cases h : e.val ≤ l.val + 32
  · have := clipR_up ⟨l.val + 32 - e.val, by omega⟩
    rw [← this]
    congr 1
    apply BitVec.eq_of_toNat_eq
    simp [BitVec.toNat_sub, BitVec.toNat_add, BitVec.toNat_ofNat]
    omega
  · have := clipR_down ⟨e.val - (l.val + 32), by omega⟩
    rw [show min (l.val + 32 - e.val) 64 = 0 by omega, ← this]
    congr 1
    apply BitVec.eq_of_toNat_eq
    simp [BitVec.toNat_sub, BitVec.toNat_add, BitVec.toNat_ofNat, BitVec.toNat_neg]
    omega

include hX hM hR hC in
/-- The offset class. -/
theorem v141_at (b : Fin 2) (l : Fin 1024) (k : Fin 48) : val_main_v141 (F := Ideal) x0 x1 x2 x3 x4 (ix3 b l k)
    = BitVec.ofNat 32 (step l (near X b l k)).val := by
  pointwise [val_main_v141, val_main_v140, val_main_v139, val_main_v138, val_main_v137, val_main_v136, val_main_v135,
    val_main_v134, val_main_v133, val_main_v132, val_main_v131, val_main_v130, val_main_c, val_main_c_12,
    val_main_c_13, val_main_c_14, val_main_c_15]
  rw [v121_at x0 x1 x2 x3 X hX hM hR, v129_at x0 x1 x2 x4 X hX hM hC]
  exact clipR_step l (near X b l k)

/-- The one-hot row of an offset class. -/
theorem class_flag (n : Fin 66) (i : Fin 66) :
    (FloatOps.uitofp FTy.f32 (IntOp.cmpi .eq (BitVec.ofNat 32 n.val) (BitVec.ofNat 32 i.val)) : Ideal .f32)
      = (((if i = n then 1 else 0 : ℝ)) : EReal) := by
  by_cases h : i = n
  · subst h
    rw [if_pos rfl]
    show (((BitVec.ofBool (_ == _)).toNat : ℝ) : EReal) = _
    rw [beq_self_eq_true]
    norm_num
    rfl
  · rw [if_neg h]
    show (((BitVec.ofBool (_ == _)).toNat : ℝ) : EReal) = _
    have h1 : (BitVec.ofNat 32 n.val == BitVec.ofNat 32 i.val) = false := by
      rw [beq_eq_false_iff_ne]
      intro h2
      have := congrArg BitVec.toNat h2
      simp [BitVec.toNat_ofNat] at this
      exact h (Fin.ext (by omega))
    rw [h1]
    norm_num

include hX hM hR hC hP hB hE in
/-- The features before the normalisation. -/
theorem v154_at (b : Fin 2) (l : Fin 1024) (k : Fin 48) (o : Fin 128) :
    val_main_v154 (F := Ideal) x0 x1 x2 x3 x4 x5 x6 x7 (ix4 b l k o) = ((feat X Wp bp We b l k o : ℝ) : EReal) := by
  pointwise [val_main_v154, val_main_v153, val_main_v152, val_main_v151, val_main_v150, val_main_v149, val_main_v148,
    val_main_v147, val_main_v146, val_main_v145, val_main_v144, val_main_v143, val_main_v142, val_main_v114]
  simp only [v141_at x0 x1 x2 x3 x4 X hX hM hR hC, v113_at x0 x1 x2 X hX hM, class_flag, hP, hB, hE, ← EReal.coe_mul, coe_sum,
    ← EReal.coe_add]
  congr 1
  unfold feat
  congr 1
  refine Finset.sum_congr rfl fun p _ => ?_
  congr 2
  simp only [ite_mul, one_mul, zero_mul]
  rw [Finset.sum_ite_eq' Finset.univ, if_pos (Finset.mem_univ _)]

include hX hM hR hC hP hB hE in
/-- The normalised features. -/
theorem v178_at (b : Fin 2) (l : Fin 1024) (k : Fin 48) (o : Fin 128) :
    val_main_v178 (F := Ideal) x0 x1 x2 x3 x4 x5 x6 x7 x8 x9 (ix4 b l k o)
      = normed (fun q => ((feat X Wp bp We b l k q : ℝ) : EReal)) (x8 (ix1 o)) (x9 (ix1 o)) o := by
  have h : (fun q => ((feat X Wp bp We b l k q : ℝ) : EReal))
      = fun q => val_main_v154 (F := Ideal) x0 x1 x2 x3 x4 x5 x6 x7 (ix4 b l k q) :=
    funext fun q => (v154_at x0 x1 x2 x3 x4 x5 x6 x7 X hX hM hR hC Wp bp We hP hB hE b l k q).symm
  rw [h]
  pointwise [val_main_v178, val_main_v177, val_main_v176, val_main_v175, val_main_v174, val_main_v173, val_main_v172,
    val_main_v171, val_main_v170, val_main_v169, val_main_v168, val_main_v167, val_main_v166, val_main_v165,
    val_main_v164, val_main_v163, val_main_v162, val_main_v161, val_main_v160, val_main_v159, val_main_v158,
    val_main_v157, val_main_v156, val_main_v155, val_main_cst_16, val_main_cst_17, val_main_cst_18, val_main_cst_19,
    val_main_cst_20]
  rfl

end Cert.EdgeRef

end
-- ==== Proof.Agree.lean ====
/- The kernel's two results are the reference's, where the arguments are as the precondition says. -/
module

public import proofs.«01_k».proof.Proof.Whole
public import proofs.«01_k».proof.Proof.Out
public import proofs.«01_k».proof.Proof.RefC

@[expose] public section
set_option maxRecDepth 16384
noncomputable section
namespace Cert.Edge
open Idealize.ShloMosaic Idealize.ShloMosaic.TcCoe Cert.KernelIdeal Cert.KernelIdeal.Gen Idealize.SL.Sem Cert.EdgeSpec

variable (m : (ℓ : Loc nD τ sig) → Buf (Elt Ideal) ℓ) (c : Dev nD)
variable (X : Fin 2 → Fin 1024 → Fin 4 → Fin 3 → ℝ)
  (hX : ∀ b l (k : Fin 4) d, (m ((c.tc : Thread nD τ).loc main_arg0) : FVec Ideal S2x1024x14x3 .f32)
    (ix4 b l (⟨k.val, Cert.EdgeRef.lt14 k⟩ : Fin 14) d) = ((X b l k d : ℝ) : EReal))

include hX in
/-- Coordinate `n` of the first four atoms of a residue. -/
theorem coord_real (b : Fin 2) (l : Fin 1024) (n : ℕ) (h : n < 12) :
    (m ((c.tc : Thread nD τ).loc main_arg0) : FVec Ideal S2x1024x14x3 .f32)
      (ix4 b l (⟨n / 3, by omega⟩ : Fin 14) (⟨n % 3, by omega⟩ : Fin 3)) = ((flat X b l n : ℝ) : EReal) := by
  unfold flat
  rw [dif_pos h]
  exact hX b l ⟨n / 3, by omega⟩ ⟨n % 3, by omega⟩

include hX in
/-- The own residues' coordinates in a block. -/
theorem own_real (b : Fin 2) (q : Fin 16) (r : Fin 64) (n : ℕ) (h : n < 42) (h' : n < 12) :
    iblk m c 1 (pt b q) (ix3 (0 : Fin 1) r (⟨n, h⟩ : Fin 42)) = ((flat X b (own q r) n : ℝ) : EReal) :=
  (iblk1_at m c b q r ⟨n, h⟩).trans ((v0_at m c b _ ⟨n, h⟩).trans (coord_real m c X hX b (own q r) n h'))

include hX in
/-- All residues' coordinates in a block. -/
theorem all_real (b : Fin 2) (q : Fin 16) (p : Fin 1024) (n : ℕ) (h : n < 42) (h' : n < 12) :
    iblk m c 2 (pt b q) (ix3 (0 : Fin 1) (⟨n, h⟩ : Fin 42) p) = ((flat X b p n : ℝ) : EReal) :=
  (iblk2_at m c b q ⟨n, h⟩ p).trans ((v1_at m c b p ⟨n, h⟩).trans (coord_real m c X hX b p n h'))

include hX in
/-- The atom table. -/
theorem tab_real (b : Fin 2) (g d : Fin 128) :
    tabAt m c b (ix2 g d) = ((flat5 X b ⟨8 * g.val + d.val / 16, by omega⟩ (d.val % 16) : ℝ) : EReal) :=
  atomTab_at X (iblk m c 0 (pt b 0)) b (fun g j n h h' =>
    (iblk0_at m c b 0 g ⟨42 * j.val + n, h⟩).trans
      ((v35_at m c b g j ⟨n, by omega⟩).trans (coord_real m c X hX b ⟨8 * g.val + j.val, by omega⟩ n h'))) g d

include hX in
/-- The kernel's neighbours. -/
theorem kernel_indices (b : Fin 2) (l : Fin 1024) (k : Fin 48) :
    extractStridedSlice S2x1024x48 ![0, 0, 0] (G7 m c) slices_S2x1024x128_S2x1024x48_0_0_0 (ix3 b l k)
      = BitVec.ofNat 32 (near X b l k.val).val := by
  have e : extractStridedSlice S2x1024x48 ![0, 0, 0] (G7 m c) slices_S2x1024x128_S2x1024x48_0_0_0 (ix3 b l k)
      = G7 m c (ix3 b l (⟨k.val, by omega⟩ : Fin 128)) := by
    pointwise []
  have hq : l.val / 64 < 16 := by omega
  have hr : l.val % 64 < 64 := by omega
  have hl : own ⟨l.val / 64, hq⟩ ⟨l.val % 64, hr⟩ = l := Fin.ext (by show 64 * (l.val / 64) + l.val % 64 = l.val; omega)
  rw [e]
  show numBlock (nums (iblk m c 1 (pt b ⟨l.val / 64, hq⟩)) (iblk m c 2 (pt b ⟨l.val / 64, hq⟩)))
    (ix3 (0 : Fin 1) (⟨l.val % 64, hr⟩ : Fin 64) (⟨k.val, by omega⟩ : Fin 128)) = _
  rw [numBlock_apply, nums_at X b ⟨l.val / 64, hq⟩ _ _ (own_real m c X hX b _) (all_real m c X hX b _), hl]

variable (Wp : Fin 66 → Fin 16 → ℝ) (bp : Fin 16 → ℝ) (We : Fin 416 → Fin 128 → ℝ)
  (hP : ∀ i p, (m ((c.tc : Thread nD τ).loc main_arg5) : FVec Ideal S66x16 .f32) (ix2 i p) = ((Wp i p : ℝ) : EReal))
  (hB : ∀ p, (m ((c.tc : Thread nD τ).loc main_arg6) : FVec Ideal S16 .f32) (ix1 p) = ((bp p : ℝ) : EReal))
  (hE : ∀ i o, (m ((c.tc : Thread nD τ).loc main_arg7) : FVec Ideal S416x128 .f32) (ix2 i o) = ((We i o : ℝ) : EReal))

/-- The offset-class rows a block reads. -/
theorem block3 (t : Fin cfg0.N) :
    (iblk m c 3 t : Vec Ideal S128x16 .f32) = wposTab (m ((c.tc : Thread nD τ).loc main_arg5)) := by
  rw [← v4_eq m c]
  funext i
  rw [ValueIdx.eq_ix2 i]
  exact iblk3_at m c t (i 0) (i 1)

/-- The tables a block reads. -/
theorem block4 (t : Fin cfg0.N) :
    (iblk m c 4 t : Vec Ideal S1312x128 .f32) = tables (m ((c.tc : Thread nD τ).loc main_arg7)) := by
  rw [← v34_eq m c]
  funext i
  rw [ValueIdx.eq_ix2 i]
  exact iblk4_at m c t (i 0) (i 1)

/-- The parameters a block reads. -/
theorem block5 (t : Fin cfg0.N) :
    (iblk m c 5 t : Vec Ideal S8x128 .f32)
      = params (m ((c.tc : Thread nD τ).loc main_arg8)) (m ((c.tc : Thread nD τ).loc main_arg9))
        (m ((c.tc : Thread nD τ).loc main_arg6)) (eight (Cert.ReferenceIdeal.Read.val_main_v103 (F := Ideal))) := by
  unfold params
  rw [← v19_eq m c]
  funext i
  rw [ValueIdx.eq_ix2 i]
  exact iblk5_at m c t (i 0) (i 1)

include hX hP hB hE in
/-- The kernel's edge features. -/
theorem kernel_features (b : Fin 2) (l : Fin 1024) (k : Fin 48) (o : Fin 128) :
    shapeCast S2x1024x48x128 (G6 m c) shapeCasts_S2x49152x128_S2x1024x48x128 (ix4 b l k o)
      = normed (fun n => ((feat X Wp bp We b l k.val n : ℝ) : EReal)) ((m ((c.tc : Thread nD τ).loc main_arg8) : FVec Ideal S128 .f32) (ix1 o))
        ((m ((c.tc : Thread nD τ).loc main_arg9) : FVec Ideal S128 .f32) (ix1 o)) o := by
  have hj : l.val * 48 + k.val < 49152 := by omega
  have e : shapeCast S2x1024x48x128 (G6 m c) shapeCasts_S2x49152x128_S2x1024x48x128 (ix4 b l k o)
      = G6 m c (ix3 b (⟨l.val * 48 + k.val, hj⟩ : Fin 49152) o) := by
    pointwise []
  have hq : (l.val * 48 + k.val) / 3072 < 16 := by omega
  have hr : (l.val * 48 + k.val) % 3072 < 3072 := by omega
  have hs : (l.val * 48 + k.val) % 3072 / 48 < 64 := by omega
  have hl : own ⟨(l.val * 48 + k.val) / 3072, hq⟩ ⟨(l.val * 48 + k.val) % 3072 / 48, hs⟩ = l :=
    Fin.ext (by show 64 * ((l.val * 48 + k.val) / 3072) + (l.val * 48 + k.val) % 3072 / 48 = l.val; omega)
  have hk : (l.val * 48 + k.val) % 3072 % 48 = k.val := by omega
  rw [e]
  show featAt m c b ⟨(l.val * 48 + k.val) / 3072, hq⟩ (ix3 (0 : Fin 1) (⟨(l.val * 48 + k.val) % 3072, hr⟩ : Fin 3072) o) = _
  unfold featAt
  rw [coord_at]
  refine (featOf_at X b ⟨(l.val * 48 + k.val) / 3072, hq⟩ _ _ Wp bp We _ _ _ _ (m ((c.tc : Thread nD τ).loc main_arg5))
    (m ((c.tc : Thread nD τ).loc main_arg6)) (m ((c.tc : Thread nD τ).loc main_arg7)) (m ((c.tc : Thread nD τ).loc main_arg8))
    (m ((c.tc : Thread nD τ).loc main_arg9)) (Cert.ReferenceIdeal.Read.val_main_v103 (F := Ideal))
    (own_real m c X hX b _) (all_real m c X hX b _) (tab_real m c X hX b) (block3 m c _) (block4 m c _) (block5 m c _) hP hB hE
    Cert.EdgeRef.v103_at ⟨(l.val * 48 + k.val) % 3072, hr⟩ o).trans ?_
  show normed (fun n => ((feat X Wp bp We b (own ⟨(l.val * 48 + k.val) / 3072, hq⟩ ⟨(l.val * 48 + k.val) % 3072 / 48, hs⟩)
    ((l.val * 48 + k.val) % 3072 % 48) n : ℝ) : EReal)) _ _ o = _
  rw [hl, hk]

end Cert.Edge
end
-- ==== Proof.Pre.lean ====
/- What the precondition says of the arguments. -/
module

public import proofs.«01_k».proof.Proof.RefA
public import proofs.«01_k».proof.Proof.Gen.Pre_edges_ok

@[expose] public section
noncomputable section
namespace Cert.EdgePre
open Idealize.ShloMosaic Idealize.ShloMosaic.TcCoe Cert.Pre_edges_ok Cert.Pre_edges_ok.Gen Idealize.SL.Sem Cert.EdgeRef

/-- The pattern of infinity. -/
theorem inf_word : Ideal.ofBits .f32 0x7F800000#32 = (⊤ : EReal) := by simp [Ideal.ofBits, Ideal.ieee]

/-- A number whose absolute value is below infinity is a real. -/
theorem real_of_flag (x : Ideal .f32)
    (h : BitVec.ofBool (decide (FloatOps.absf (F := Ideal) (φ := .f32) x < Ideal.ofBits .f32 0x7F800000#32)) = 1#1) :
    x = (((x : EReal).toReal : ℝ) : EReal) := by
  rw [inf_word] at h
  have h' : decide (FloatOps.absf (F := Ideal) (φ := .f32) x < (⊤ : EReal)) = true := by
    by_contra hc
    rw [Bool.not_eq_true] at hc
    rw [hc] at h
    exact absurd h (by decide)
  have h2 : max (x : EReal) (-x) < ⊤ := of_decide_eq_true h'
  refine (EReal.coe_toReal ?_ ?_).symm
  · rintro rfl
    exact absurd h2 (by simp)
  · rintro rfl
    exact absurd h2 (by simp)

theorem eq_of_flag (a c : BitVec 32) (h : IntOp.cmpi CmpIPredicate.eq a c = 1#1) : a = c := by
  by_contra hc
  have : IntOp.cmpi CmpIPredicate.eq a c = 0#1 := by
    show BitVec.ofBool (a == c) = _
    rw [beq_eq_false_iff_ne.mpr hc]
    rfl
  rw [this] at h
  exact absurd h (by decide)

variable (x0 : FVec Ideal S2x1024x14x3 .f32) (x1 : FVec Ideal S2x1024x14 .f32) (x2 x3 x4 : IVec S2x1024 32)
  (x5 : FVec Ideal S66x16 .f32) (x6 : FVec Ideal S16 .f32) (x7 : FVec Ideal S416x128 .f32) (x8 x9 : FVec Ideal S128 .f32)

/-- The first four atoms of each residue are reals. -/
theorem atoms_real (h : (fn (F := Ideal) x0 x1 x2 x3 x4 x5 x6 x7 x8 x9).1 = fun _ => 1#1) (b : Fin 2) (l : Fin 1024) (k : Fin 4) (c : Fin 3) :
    x0 (ix4 b l (⟨k.val, lt14 k⟩ : Fin 14) c) = (((x0 (ix4 b l (⟨k.val, lt14 k⟩ : Fin 14) c) : EReal).toReal : ℝ) : EReal) := by
  apply real_of_flag
  rw [← congrFun h (ix4 b l k c)]
  unfold fn fn_part1
  dsimp only
  pointwise []

/-- The second atom of each residue is present. -/
theorem present (h : (fn (F := Ideal) x0 x1 x2 x3 x4 x5 x6 x7 x8 x9).2.1 = fun _ => 1#1) (b : Fin 2) (l : Fin 1024) :
    x1 (ix3 b l (1 : Fin 14)) = 1 := by
  have e : (fn (F := Ideal) x0 x1 x2 x3 x4 x5 x6 x7 x8 x9).2.1 (ix2 b l) = BitVec.ofBool (decide (x1 (ix3 b l (1 : Fin 14)) = 1)) := by
    unfold fn fn_part1
    dsimp only
    pointwise []
  rw [congrFun h] at e
  by_contra hc
  rw [decide_eq_false hc] at e
  exact absurd e (by decide)

/-- The residues are numbered in order. -/
theorem in_order (h : (fn (F := Ideal) x0 x1 x2 x3 x4 x5 x6 x7 x8 x9).2.2.1 = fun _ => 1#1) (b : Fin 2) (l : Fin 1024) :
    x3 (ix2 b l) - x3 (ix2 b (0 : Fin 1024)) = BitVec.ofNat 32 l.val := by
  apply eq_of_flag
  rw [← congrFun h (ix2 b l)]
  unfold fn fn_part1
  dsimp only
  pointwise []
  rfl

/-- There is one chain. -/
theorem one_chain (h : (fn (F := Ideal) x0 x1 x2 x3 x4 x5 x6 x7 x8 x9).2.2.2.1 = fun _ => 1#1) (b : Fin 2) (l : Fin 1024) :
    x4 (ix2 b l) = x4 (ix2 b (0 : Fin 1024)) := by
  apply eq_of_flag
  rw [← congrFun h (ix2 b l)]
  unfold fn fn_part1
  dsimp only
  pointwise []

/-- The positional weights are reals. -/
theorem pos_real (h : (fn (F := Ideal) x0 x1 x2 x3 x4 x5 x6 x7 x8 x9).2.2.2.2.1 = fun _ => 1#1) (i : Fin 66) (p : Fin 16) :
    x5 (ix2 i p) = (((x5 (ix2 i p) : EReal).toReal : ℝ) : EReal) := by
  apply real_of_flag
  rw [← congrFun h (ix2 i p)]
  unfold fn fn_part1
  dsimp only
  pointwise []

/-- The positional bias is real. -/
theorem bias_real (h : (fn (F := Ideal) x0 x1 x2 x3 x4 x5 x6 x7 x8 x9).2.2.2.2.2.1 = fun _ => 1#1) (p : Fin 16) :
    x6 (ix1 p) = (((x6 (ix1 p) : EReal).toReal : ℝ) : EReal) := by
  apply real_of_flag
  rw [← congrFun h (ix1 p)]
  unfold fn fn_part1
  dsimp only
  pointwise []

/-- The edge weights are reals. -/
theorem edge_real (h : (fn (F := Ideal) x0 x1 x2 x3 x4 x5 x6 x7 x8 x9).2.2.2.2.2.2 = fun _ => 1#1) (i : Fin 416) (o : Fin 128) :
    x7 (ix2 i o) = (((x7 (ix2 i o) : EReal).toReal : ℝ) : EReal) := by
  apply real_of_flag
  rw [← congrFun h (ix2 i o)]
  unfold fn fn_part1
  dsimp only
  pointwise []

end Cert.EdgePre
-- ==== Proof.Join.lean ====
/- The claim about values: the kernel's two results are the reference's. -/
module

public import proofs.«01_k».proof.Defs
public import proofs.«01_k».proof.Proof.Agree
public import proofs.«01_k».proof.Proof.Pre
public import proofs.«01_k».proof.Proof.Gen.ReferenceIdeal.Run
public import proofs.«01_k».proof.Proof.Gen.ReferenceIdeal.Read
public import Idealize.ShloMosaic.Adequacy
public import Idealize.ShloMosaic.Init

@[expose] public section
set_option maxRecDepth 16384
noncomputable section
namespace Cert.Edge
open Idealize.ShloMosaic Idealize.ShloMosaic.TcCoe Idealize.SL.Sem Cert.EdgeSpec

section
variable (m : (ℓ : Loc Cert.KernelIdeal.nD Cert.KernelIdeal.τ Cert.KernelIdeal.sig) → Buf (Elt Ideal) ℓ)
  (hpre : Cert.Pre_KernelIdeal_edges_ok m) (c : Dev Cert.KernelIdeal.nD)

/-- The first four atoms as reals. -/
def atoms : Fin 2 → Fin 1024 → Fin 4 → Fin 3 → ℝ := fun b l k d =>
  ((m ((c.tc : Thread Cert.KernelIdeal.nD Cert.KernelIdeal.τ).loc Cert.KernelIdeal.main_arg0) : FVec Ideal Cert.KernelIdeal.S2x1024x14x3 .f32)
    (ix4 b l (⟨k.val, Cert.EdgeRef.lt14 k⟩ : Fin 14) d) : EReal).toReal

/-- The positional weights as reals. -/
def posW : Fin 66 → Fin 16 → ℝ := fun i p =>
  ((m ((c.tc : Thread Cert.KernelIdeal.nD Cert.KernelIdeal.τ).loc Cert.KernelIdeal.main_arg5) : FVec Ideal Cert.KernelIdeal.S66x16 .f32) (ix2 i p) : EReal).toReal

/-- The positional bias as reals. -/
def posB : Fin 16 → ℝ := fun p =>
  ((m ((c.tc : Thread Cert.KernelIdeal.nD Cert.KernelIdeal.τ).loc Cert.KernelIdeal.main_arg6) : FVec Ideal Cert.KernelIdeal.S16 .f32) (ix1 p) : EReal).toReal

/-- The edge weights as reals. -/
def edgeW : Fin 416 → Fin 128 → ℝ := fun i o =>
  ((m ((c.tc : Thread Cert.KernelIdeal.nD Cert.KernelIdeal.τ).loc Cert.KernelIdeal.main_arg7) : FVec Ideal Cert.KernelIdeal.S416x128 .f32) (ix2 i o) : EReal).toReal

include hpre in
/-- The two arrays of neighbours are one. -/
theorem indices_agree :
    (extractStridedSlice Cert.KernelIdeal.S2x1024x48 ![0, 0, 0] (G7 m c) Cert.KernelIdeal.Gen.slices_S2x1024x128_S2x1024x48_0_0_0
      : IVec Cert.KernelIdeal.S2x1024x48 32)
      = Cert.ReferenceIdeal.Read.val_main_indices (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2)) := by
  obtain ⟨p0, p1, p2, p3, p4, p5, p6⟩ := hpre c
  have hX := fun b l k d => Cert.EdgePre.atoms_real _ _ _ _ _ _ _ _ _ _ p0 b l k d
  have hM := fun b l => Cert.EdgePre.present _ _ _ _ _ _ _ _ _ _ p1 b l
  funext i
  rw [ValueIdx.eq_ix3 i]
  exact (kernel_indices m c (atoms m c) hX (i 0) (i 1) (i 2)).trans
    (Cert.EdgeRef.indices_at _ _ _ (atoms m c) hX hM (i 0) (i 1) (i 2)).symm

include hpre in
/-- The two arrays of edge features are one. -/
theorem features_agree :
    (shapeCast Cert.KernelIdeal.S2x1024x48x128 (G6 m c) Cert.KernelIdeal.Gen.shapeCasts_S2x49152x128_S2x1024x48x128
      : FVec Ideal Cert.KernelIdeal.S2x1024x48x128 .f32)
      = Cert.ReferenceIdeal.Read.val_main_v178 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
        (m ((c.tc : Thread Cert.KernelIdeal.nD Cert.KernelIdeal.τ).loc Cert.KernelIdeal.main_arg8))
        (m ((c.tc : Thread Cert.KernelIdeal.nD Cert.KernelIdeal.τ).loc Cert.KernelIdeal.main_arg9)) := by
  obtain ⟨p0, p1, p2, p3, p4, p5, p6⟩ := hpre c
  have hX := fun b l k d => Cert.EdgePre.atoms_real _ _ _ _ _ _ _ _ _ _ p0 b l k d
  have hM := fun b l => Cert.EdgePre.present _ _ _ _ _ _ _ _ _ _ p1 b l
  have hR := fun b l => Cert.EdgePre.in_order _ _ _ _ _ _ _ _ _ _ p2 b l
  have hC := fun b l => Cert.EdgePre.one_chain _ _ _ _ _ _ _ _ _ _ p3 b l
  have hP := fun i p => Cert.EdgePre.pos_real _ _ _ _ _ _ _ _ _ _ p4 i p
  have hB := fun p => Cert.EdgePre.bias_real _ _ _ _ _ _ _ _ _ _ p5 p
  have hE := fun i o => Cert.EdgePre.edge_real _ _ _ _ _ _ _ _ _ _ p6 i o
  funext i
  rw [ValueIdx.eq_ix4 i]
  exact (kernel_features m c (atoms m c) hX (posW m c) (posB m c) (edgeW m c) hP hB hE (i 0) (i 1) (i 2) (i 3)).trans
    (Cert.EdgeRef.v178_at _ _ _ _ _ _ _ _ _ _ (atoms m c) hX hM hR hC (posW m c) (posB m c) (edgeW m c) hP hB hE
      (i 0) (i 1) (i 2) (i 3)).symm

end

section
variable (m' : (ℓ : Loc Cert.ReferenceIdeal.nD Cert.ReferenceIdeal.τ Cert.ReferenceIdeal.sig) → Buf (Elt Ideal) ℓ)
  (g' : Dev Cert.ReferenceIdeal.nD → PrngReg)

/-- The reference's run, its results as functions of its arguments. -/
theorem reference_run : θ_run (Cert.ReferenceIdeal.defs (F := Ideal)) (onTc (τ := Cert.ReferenceIdeal.τ) (Cert.ReferenceIdeal.main (F := Ideal)))
    ⟨m', fun _ => 0, g'⟩ (fun r => ∀ c : Dev Cert.ReferenceIdeal.nD,
      r.2.mem ((c.tc : Thread Cert.ReferenceIdeal.nD Cert.ReferenceIdeal.τ).loc Cert.ReferenceIdeal.main_v178)
        = Cert.ReferenceIdeal.Read.val_main_v178 (F := Ideal)
          (m' ((c.tc : Thread Cert.ReferenceIdeal.nD Cert.ReferenceIdeal.τ).loc Cert.ReferenceIdeal.main_arg0))
          (m' ((c.tc : Thread Cert.ReferenceIdeal.nD Cert.ReferenceIdeal.τ).loc Cert.ReferenceIdeal.main_arg1))
          (m' ((c.tc : Thread Cert.ReferenceIdeal.nD Cert.ReferenceIdeal.τ).loc Cert.ReferenceIdeal.main_arg2))
          (m' ((c.tc : Thread Cert.ReferenceIdeal.nD Cert.ReferenceIdeal.τ).loc Cert.ReferenceIdeal.main_arg3))
          (m' ((c.tc : Thread Cert.ReferenceIdeal.nD Cert.ReferenceIdeal.τ).loc Cert.ReferenceIdeal.main_arg4))
          (m' ((c.tc : Thread Cert.ReferenceIdeal.nD Cert.ReferenceIdeal.τ).loc Cert.ReferenceIdeal.main_arg5))
          (m' ((c.tc : Thread Cert.ReferenceIdeal.nD Cert.ReferenceIdeal.τ).loc Cert.ReferenceIdeal.main_arg6))
          (m' ((c.tc : Thread Cert.ReferenceIdeal.nD Cert.ReferenceIdeal.τ).loc Cert.ReferenceIdeal.main_arg7))
          (m' ((c.tc : Thread Cert.ReferenceIdeal.nD Cert.ReferenceIdeal.τ).loc Cert.ReferenceIdeal.main_arg8))
          (m' ((c.tc : Thread Cert.ReferenceIdeal.nD Cert.ReferenceIdeal.τ).loc Cert.ReferenceIdeal.main_arg9))
      ∧ r.2.mem ((c.tc : Thread Cert.ReferenceIdeal.nD Cert.ReferenceIdeal.τ).loc Cert.ReferenceIdeal.main_indices)
        = Cert.ReferenceIdeal.Read.val_main_indices (F := Ideal)
          (m' ((c.tc : Thread Cert.ReferenceIdeal.nD Cert.ReferenceIdeal.τ).loc Cert.ReferenceIdeal.main_arg0))
          (m' ((c.tc : Thread Cert.ReferenceIdeal.nD Cert.ReferenceIdeal.τ).loc Cert.ReferenceIdeal.main_arg1))
          (m' ((c.tc : Thread Cert.ReferenceIdeal.nD Cert.ReferenceIdeal.τ).loc Cert.ReferenceIdeal.main_arg2))
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)) :=
  (θ_run Cert.ReferenceIdeal.defs _ _).mono (fun _ h c =>
      ⟨(h c).1.trans (Cert.ReferenceIdeal.Read.val_main_v178_eq (F := Ideal) (StableHlo.launchContents m' c)),
        (h c).2.1.trans (Cert.ReferenceIdeal.Read.val_main_indices_eq (F := Ideal) (StableHlo.launchContents m' c)), (h c).2.2⟩)
    (Cert.ReferenceIdeal.Value.run (F := Ideal) m' g')

end

/-- The claim about values. -/
theorem algebraic : Cert.algebraic_KernelIdeal_ReferenceIdeal_pre_edges_ok := by
  intro m g m' g' hpre hargs
  have k := kernel_run (F := Ideal) m g
  refine ⟨fun c => shapeCast Cert.KernelIdeal.S2x1024x48x128 (G6 m c) Cert.KernelIdeal.Gen.shapeCasts_S2x49152x128_S2x1024x48x128,
    fun c => extractStridedSlice Cert.KernelIdeal.S2x1024x48 ![0, 0, 0] (G7 m c) Cert.KernelIdeal.Gen.slices_S2x1024x128_S2x1024x48_0_0_0,
    ?_, ?_⟩
  · exact k
  refine (θ_run Cert.ReferenceIdeal.defs _ _).mono (fun r h c => ?_) (reference_run m' g')
  obtain ⟨a0, a1, a2, a3, a4, a5, a6, a7, a8, a9⟩ := hargs c
  refine ⟨(h c).1.trans ?_, (h c).2.1.trans ?_, (h c).2.2⟩
  · rw [a0, a1, a2, a3, a4, a5, a6, a7, a8, a9]
    exact (features_agree m hpre c).symm
  · rw [a0, a1, a2]
    exact (indices_agree m hpre c).symm

end Cert.Edge
end
-- ==== Proof.lean ====
/- The five claims: the two kernels and the reference run and leave their arguments alone, the ideal kernel is
   the kernel, and the kernel computes the reference. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_edges_ok
public import proofs.«01_k».proof.Proof.Gen.ReferenceIdeal.Run
public import proofs.«01_k».proof.Proof.Gen.ReferenceIdeal.Read
public import proofs.«01_k».proof.Proof.Join
public import Idealize.ShloMosaic.Adequacy
public import Idealize.ShloMosaic.Init

@[expose] public section

noncomputable section

namespace Cert.Proof

open Idealize.ShloMosaic Idealize.SL.Sem

/-- The reference runs and leaves its arguments and every counter alone. -/
theorem frame_reference : Cert.quiescent_ReferenceIdeal := by
  intro m ρ _
  exact (θ_run Cert.ReferenceIdeal.defs _ _).mono (fun r h => ⟨fun c => (h c).2.2, sem_eq_zero_of_no_sems (by decide) r.2⟩)
    (Cert.ReferenceIdeal.Value.run (F := Ideal) m ρ)

/-- The two named constants at their sites. -/
theorem preserves : Cert.preserves_Kernel_KernelIdeal :=
  ⟨IdealRules.named_const.statement Cert.KernelIdeal.κ "far" .f32 0x7149F2CA#32 ⊤ rfl,
    IdealRules.named_const.statement Cert.KernelIdeal.κ "inv_sigma" .f32 0x3F4CCCCD#32 ((4 / 5 : ℝ) : EReal) rfl⟩

/-- Everything claimed. -/
theorem claim : Cert.Claim := ⟨Cert.Kernel.Gen.facts, Cert.KernelIdeal.Gen.facts, Cert.ReferenceIdeal.Gen.facts, Cert.Pre_edges_ok.Gen.facts,
  fun m ρ _ => Cert.Kernel.Gen.frame m ρ, fun m ρ _ => Cert.KernelIdeal.Gen.frame m ρ, fun m ρ _ => Cert.KernelIdeal.Gen.frame m ρ,
  frame_reference, fun m ρ _ => frame_reference m ρ trivial, preserves, Cert.Edge.algebraic⟩

end Cert.Proof

end
